-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite_KernelIdeal [hPre_finite_KernelIdeal : Cert.Pre_finite_KernelIdeal.Facts] (m : (ℓ : Loc Cert.KernelIdeal.nD Cert.KernelIdeal.τ Cert.KernelIdeal.sig) → Buf (Elt Ideal) ℓ) : Prop :=
  ∀ c : Dev Cert.KernelIdeal.nD,
    (Cert.Pre_finite_KernelIdeal.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite_ReferenceIdeal [hPre_finite_ReferenceIdeal : Cert.Pre_finite_ReferenceIdeal.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_ReferenceIdeal.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ r.2.sem = fun _ => 0)

def quiescent_KernelIdeal_pre_finite_KernelIdeal [hKernelIdeal : Cert.KernelIdeal.Facts] [hPre_finite_KernelIdeal : Cert.Pre_finite_KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))
      ∧ r.2.sem = fun _ => 0)

def quiescent_ReferenceIdeal_pre_finite_ReferenceIdeal [hReferenceIdeal : Cert.ReferenceIdeal.Facts] [hPre_finite_ReferenceIdeal : Cert.Pre_finite_ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))
      ∧ r.2.sem = fun _ => 0)

def preserves_Kernel_KernelIdeal : Prop :=
  True

def algebraic_KernelIdeal_ReferenceIdeal_pre_finite_KernelIdeal [hKernelIdeal : Cert.KernelIdeal.Facts] [hReferenceIdeal : Cert.ReferenceIdeal.Facts] [hPre_finite_KernelIdeal : Cert.Pre_finite_KernelIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite_KernelIdeal m →
    (∀ c : Dev Cert.KernelIdeal.nD,
      m ((c.tc : Thread Cert.KernelIdeal.nD Cert.KernelIdeal.τ).loc Cert.KernelIdeal.main_arg0) = Layout.blockN ⟨4, ![2, 64, 64, 64]⟩ ⟨4, ![2, 128, 128, 64]⟩ (Layout.meshBlock [2, 2] ![[], [0], [1], []] c) (m' (((0 : Dev Cert.ReferenceIdeal.nD).tc : Thread Cert.ReferenceIdeal.nD Cert.ReferenceIdeal.τ).loc Cert.ReferenceIdeal.main_arg0))
      ∧ m ((c.tc : Thread Cert.KernelIdeal.nD Cert.KernelIdeal.τ).loc Cert.KernelIdeal.main_arg1) = m' (((0 : Dev Cert.ReferenceIdeal.nD).tc : Thread Cert.ReferenceIdeal.nD Cert.ReferenceIdeal.τ).loc Cert.ReferenceIdeal.main_arg1)
      ∧ m ((c.tc : Thread Cert.KernelIdeal.nD Cert.KernelIdeal.τ).loc Cert.KernelIdeal.main_arg2) = m' (((0 : Dev Cert.ReferenceIdeal.nD).tc : Thread Cert.ReferenceIdeal.nD Cert.ReferenceIdeal.τ).loc Cert.ReferenceIdeal.main_arg2)) →
    ∃ (v0 : Buf (Elt Ideal) (((0 : Dev Cert.ReferenceIdeal.nD).tc : Thread Cert.ReferenceIdeal.nD Cert.ReferenceIdeal.τ).loc Cert.ReferenceIdeal.main_v85)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = Layout.blockN ⟨4, ![2, 64, 64, 64]⟩ ⟨4, ![2, 128, 128, 64]⟩ (Layout.meshBlock [2, 2] ![[], [0], [1], []] c) v0
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r =>
          r.2.mem (((0 : Dev Cert.ReferenceIdeal.nD).tc : Thread Cert.ReferenceIdeal.nD Cert.ReferenceIdeal.τ).loc Cert.ReferenceIdeal.main_v85) = v0
          ∧ r.2.mem (((0 : Dev Cert.ReferenceIdeal.nD).tc : Thread Cert.ReferenceIdeal.nD Cert.ReferenceIdeal.τ).loc Cert.ReferenceIdeal.main_arg0) = m' (((0 : Dev Cert.ReferenceIdeal.nD).tc : Thread Cert.ReferenceIdeal.nD Cert.ReferenceIdeal.τ).loc Cert.ReferenceIdeal.main_arg0)
          ∧ r.2.mem (((0 : Dev Cert.ReferenceIdeal.nD).tc : Thread Cert.ReferenceIdeal.nD Cert.ReferenceIdeal.τ).loc Cert.ReferenceIdeal.main_arg1) = m' (((0 : Dev Cert.ReferenceIdeal.nD).tc : Thread Cert.ReferenceIdeal.nD Cert.ReferenceIdeal.τ).loc Cert.ReferenceIdeal.main_arg1)
          ∧ r.2.mem (((0 : Dev Cert.ReferenceIdeal.nD).tc : Thread Cert.ReferenceIdeal.nD Cert.ReferenceIdeal.τ).loc Cert.ReferenceIdeal.main_arg2) = m' (((0 : Dev Cert.ReferenceIdeal.nD).tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts) (hPre_finite_KernelIdeal : Cert.Pre_finite_KernelIdeal.Facts) (hPre_finite_ReferenceIdeal : Cert.Pre_finite_ReferenceIdeal.Facts),
    quiescent_Kernel (hKernel := hKernel)
    ∧ quiescent_KernelIdeal (hKernelIdeal := hKernelIdeal)
    ∧ quiescent_KernelIdeal_pre_finite_KernelIdeal (hKernelIdeal := hKernelIdeal) (hPre_finite_KernelIdeal := hPre_finite_KernelIdeal)
    ∧ quiescent_ReferenceIdeal (hReferenceIdeal := hReferenceIdeal)
    ∧ quiescent_ReferenceIdeal_pre_finite_ReferenceIdeal (hReferenceIdeal := hReferenceIdeal) (hPre_finite_ReferenceIdeal := hPre_finite_ReferenceIdeal)
    ∧ preserves_Kernel_KernelIdeal
    ∧ algebraic_KernelIdeal_ReferenceIdeal_pre_finite_KernelIdeal (hKernelIdeal := hKernelIdeal) (hReferenceIdeal := hReferenceIdeal) (hPre_finite_KernelIdeal := hPre_finite_KernelIdeal)
-- ==== Pre_finite_KernelIdeal.lean ====
abbrev S2x64x64x64 : Shape := ⟨4, ![2, 64, 64, 64]⟩
abbrev S3x3x64 : Shape := ⟨3, ![3, 3, 64]⟩
abbrev S64x64 : Shape := ⟨2, ![64, 64]⟩
abbrev S_ : Shape := ⟨0, ![]⟩

class Facts : Prop where
  bcast_S_S2x64x64x64 : S_.BroadcastsInDim S2x64x64x64 (![] : Fin 0 → Fin S2x64x64x64.rank)
  reducesTo_S2x64x64x64_S_d0_1_2_3 : S2x64x64x64.ReducesTo [0, 1, 2, 3] S_
  h_S_ : 0 < S_.numel
  bcast_S_S3x3x64 : S_.BroadcastsInDim S3x3x64 (![] : Fin 0 → Fin S3x3x64.rank)
  reducesTo_S3x3x64_S_d0_1_2 : S3x3x64.ReducesTo [0, 1, 2] S_

variable [Facts]

def fn {F : FTy → Type} [FloatOps F] (main_arg0 : FVec F S2x64x64x64 .f32) (main_arg1 : FVec F S3x3x64 .f32) (main_arg2 : FVec F S64x64 .f32) : IVec S_ 1 :=
  let main_v0 : FVec F S2x64x64x64 .f32 := Host.absf main_arg0
  let main_cst : FVec F S_ .f32 := constant S_ .f32 0x7F800000#32
  let main_v1 : FVec F S2x64x64x64 .f32 := broadcastInDim S2x64x64x64 ![] bcast_S_S2x64x64x64 main_cst
  let main_v2 : IVec S2x64x64x64 1 := cmpf .olt main_v0 main_v1
  let main_c : IVec S_ 1 := constantI S_ 1 1#1
  let main_v3 : IVec S_ 1 := (fun x v => Host.reduce IntOp.andi x v reducesTo_S2x64x64x64_S_d0_1_2_3 h_S_) main_v2 main_c
  let main_v4 : FVec F S3x3x64 .f32 := Host.absf main_arg1
  let main_cst_0 : FVec F S_ .f32 := constant S_ .f32 0x7F800000#32
  let main_v5 : FVec F S3x3x64 .f32 := broadcastInDim S3x3x64 ![] bcast_S_S3x3x64 main_cst_0
  let main_v6 : IVec S3x3x64 1 := cmpf .olt main_v4 main_v5
  let main_c_1 : IVec S_ 1 := constantI S_ 1 1#1
  let main_v7 : IVec S_ 1 := (fun x v => Host.reduce IntOp.andi x v reducesTo_S3x3x64_S_d0_1_2 h_S_) main_v6 main_c_1
  let main_v8 : IVec S_ 1 := andi main_v3 main_v7
  main_v8
-- ==== Pre_finite_ReferenceIdeal.lean ====
abbrev S2x128x128x64 : Shape := ⟨4, ![2, 128, 128, 64]⟩
abbrev S3x3x64 : Shape := ⟨3, ![3, 3, 64]⟩
abbrev S64x64 : Shape := ⟨2, ![64, 64]⟩
abbrev S_ : Shape := ⟨0, ![]⟩

class Facts : Prop where
  bcast_S_S2x128x128x64 : S_.BroadcastsInDim S2x128x128x64 (![] : Fin 0 → Fin S2x128x128x64.rank)
  reducesTo_S2x128x128x64_S_d0_1_2_3 : S2x128x128x64.ReducesTo [0, 1, 2, 3] S_
  h_S_ : 0 < S_.numel
  bcast_S_S3x3x64 : S_.BroadcastsInDim S3x3x64 (![] : Fin 0 → Fin S3x3x64.rank)
  reducesTo_S3x3x64_S_d0_1_2 : S3x3x64.ReducesTo [0, 1, 2] S_

variable [Facts]

def fn {F : FTy → Type} [FloatOps F] (main_arg0 : FVec F S2x128x128x64 .f32) (main_arg1 : FVec F S3x3x64 .f32) (main_arg2 : FVec F S64x64 .f32) : IVec S_ 1 :=
  let main_v0 : FVec F S2x128x128x64 .f32 := Host.absf main_arg0
  let main_cst : FVec F S_ .f32 := constant S_ .f32 0x7F800000#32
  let main_v1 : FVec F S2x128x128x64 .f32 := broadcastInDim S2x128x128x64 ![] bcast_S_S2x128x128x64 main_cst
  let main_v2 : IVec S2x128x128x64 1 := cmpf .olt main_v0 main_v1
  let main_c : IVec S_ 1 := constantI S_ 1 1#1
  let main_v3 : IVec S_ 1 := (fun x v => Host.reduce IntOp.andi x v reducesTo_S2x128x128x64_S_d0_1_2_3 h_S_) main_v2 main_c
  let main_v4 : FVec F S3x3x64 .f32 := Host.absf main_arg1
  let main_cst_0 : FVec F S_ .f32 := constant S_ .f32 0x7F800000#32
  let main_v5 : FVec F S3x3x64 .f32 := broadcastInDim S3x3x64 ![] bcast_S_S3x3x64 main_cst_0
  let main_v6 : IVec S3x3x64 1 := cmpf .olt main_v4 main_v5
  let main_c_1 : IVec S_ 1 := constantI S_ 1 1#1
  let main_v7 : IVec S_ 1 := (fun x v => Host.reduce IntOp.andi x v reducesTo_S3x3x64_S_d0_1_2 h_S_) main_v6 main_c_1
  let main_v8 : IVec S_ 1 := andi main_v3 main_v7
  main_v8
-- ==== Kernel.lean ====
abbrev S2x64x64x64 : Shape := ⟨4, ![2, 64, 64, 64]⟩
abbrev S3x3x64 : Shape := ⟨3, ![3, 3, 64]⟩
abbrev S64x64 : Shape := ⟨2, ![64, 64]⟩
abbrev S2x2x64 : Shape := ⟨3, ![2, 2, 64]⟩
abbrev S3x2x2x64 : Shape := ⟨4, ![3, 2, 2, 64]⟩
abbrev S2x64x64 : Shape := ⟨3, ![2, 64, 64]⟩
abbrev S2x64 : Shape := ⟨2, ![2, 64]⟩
abbrev S6 : Shape := ⟨1, ![6]⟩
abbrev S_ : Shape := ⟨0, ![]⟩
abbrev S2x1x64x64 : Shape := ⟨4, ![2, 1, 64, 64]⟩
abbrev S2x64x1x64 : Shape := ⟨4, ![2, 64, 1, 64]⟩
abbrev S2x1x64 : Shape := ⟨3, ![2, 1, 64]⟩
abbrev S1x2x64 : Shape := ⟨3, ![1, 2, 64]⟩
abbrev S1 : Shape := ⟨1, ![1]⟩
abbrev S1x2x2x64 : Shape := ⟨4, ![1, 2, 2, 64]⟩
abbrev S2x64x66x64 : Shape := ⟨4, ![2, 64, 66, 64]⟩
abbrev S2x1x1x64 : Shape := ⟨4, ![2, 1, 1, 64]⟩
abbrev S2x1x66x64 : Shape := ⟨4, ![2, 1, 66, 64]⟩
abbrev S2x66x66x64 : Shape := ⟨4, ![2, 66, 66, 64]⟩
abbrev S1x1x64 : Shape := ⟨3, ![1, 1, 64]⟩
abbrev S64 : Shape := ⟨1, ![64]⟩
abbrev S1x1x1x64 : Shape := ⟨4, ![1, 1, 1, 64]⟩
abbrev S1x64 : Shape := ⟨2, ![1, 64]⟩
abbrev S8192x64 : Shape := ⟨2, ![8192, 64]⟩

abbrev nBuf : Space → Nat
  | .hbm => 4
  | .vmem => 12
  | .smem => 0
  | _ => 0

abbrev bufTy : (tb : Table) → Fin (tcTables nBuf tb) → BufTy
  | .hbm, ⟨0, _⟩ => ⟨S2x64x64x64, .f32⟩
  | .hbm, ⟨1, _⟩ => ⟨S3x3x64, .f32⟩
  | .hbm, ⟨2, _⟩ => ⟨S64x64, .f32⟩
  | .hbm, ⟨3, _⟩ => ⟨S2x64x64x64, .f32⟩
  | .local _ .vmem, ⟨0, _⟩ => ⟨S2x64x64x64, .f32⟩
  | .local _ .vmem, ⟨1, _⟩ => ⟨S3x3x64, .f32⟩
  | .local _ .vmem, ⟨2, _⟩ => ⟨S64x64, .f32⟩
  | .local _ .vmem, ⟨3, _⟩ => ⟨S2x64x64x64, .f32⟩
  | .local _ .vmem, ⟨4, _⟩ => ⟨S2x2x64, .f32⟩
  | .local _ .vmem, ⟨5, _⟩ => ⟨S3x2x2x64, .f32⟩
  | .local _ .vmem, ⟨6, _⟩ => ⟨S2x64x64, .f32⟩
  | .local _ .vmem, ⟨7, _⟩ => ⟨S2x64x64, .f32⟩
  | .local _ .vmem, ⟨8, _⟩ => ⟨S2x64, .f32⟩
  | .local _ .vmem, ⟨9, _⟩ => ⟨S2x64x64, .f32⟩
  | .local _ .vmem, ⟨10, _⟩ => ⟨S2x64x64, .f32⟩
  | .local _ .vmem, ⟨11, _⟩ => ⟨S2x64, .f32⟩
  | _, _ => ⟨S2x64x64x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 1 → Bool
  | ⟨0, _⟩ => false
  | _ => false

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  (ofTc nBuf bufTy 1 16 bufScoped semScoped dmaSemScoped tileCredit tileCredit_eq_zero tileCredit_pos).withBarriers [(0, 0)]

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v1 : Ref sig .tc := ⟨.hbm, 3, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_scratch0 : Ref sig .tc := ⟨.vmem, 4, rfl⟩
abbrev cc0_scratch1 : Ref sig .tc := ⟨.vmem, 5, rfl⟩
abbrev cc0_scratch2 : Ref sig .tc := ⟨.vmem, 6, rfl⟩
abbrev cc0_scratch3 : Ref sig .tc := ⟨.vmem, 7, rfl⟩
abbrev cc0_scratch4 : Ref sig .tc := ⟨.vmem, 8, rfl⟩
abbrev cc0_scratch5 : Ref sig .tc := ⟨.vmem, 9, rfl⟩
abbrev cc0_scratch6 : Ref sig .tc := ⟨.vmem, 10, rfl⟩
abbrev cc0_scratch7 : Ref sig .tc := ⟨.vmem, 11, rfl⟩
abbrev cc0_sem0_0 : DmaSem sig := 0
abbrev cc0_sem1_0 : DmaSem sig := 1
abbrev cc0_sem2_0 : DmaSem sig := 2
abbrev cc0_sem3_0 : DmaSem sig := 3
abbrev barrier0 : Sem sig := 0

abbrev nD : Nat := 4
abbrev τ : Topo := Topo.v7x

variable {F : FTy → Type} [FloatOps F]

abbrev grid0 : Pipeline.Grid := .none

def k0_dev1 (d0 : Dev nD) : Nat :=
  let c0_i32 : BitVec 32 := 0#32
  let c1_i32_2 : BitVec 32 := 1#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let v6 : BitVec 32 := Scalar.subi c1_i32_2 v2
  let c2_i32_7 : BitVec 32 := 2#32
  let v11 : BitVec 32 := Scalar.muli v6 c2_i32_7
  let v12 : BitVec 32 := Scalar.addi c0_i32 v11
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c1_i32_8 : BitVec 32 := 1#32
  let v13 : BitVec 32 := Scalar.muli v5 c1_i32_8
  let v14 : BitVec 32 := Scalar.addi v12 v13
  v14.toNat
def k0_dev2 (d0 : Dev nD) : Nat :=
  let c0_i32_11 : BitVec 32 := 0#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let c2_i32_10 : BitVec 32 := 2#32
  let v15 : BitVec 32 := Scalar.muli v2 c2_i32_10
  let v16 : BitVec 32 := Scalar.addi c0_i32_11 v15
  let c1_i32_3 : BitVec 32 := 1#32
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let v7 : BitVec 32 := Scalar.subi c1_i32_3 v5
  let c1_i32_12 : BitVec 32 := 1#32
  let v17 : BitVec 32 := Scalar.muli v7 c1_i32_12
  let v18 : BitVec 32 := Scalar.addi v16 v17
  v18.toNat
def k0_dev3 (d0 : Dev nD) : Nat :=
  let c0_i32_15 : BitVec 32 := 0#32
  let c1_i32_4 : BitVec 32 := 1#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let v8 : BitVec 32 := Scalar.subi c1_i32_4 v2
  let c2_i32_14 : BitVec 32 := 2#32
  let v19 : BitVec 32 := Scalar.muli v8 c2_i32_14
  let v20 : BitVec 32 := Scalar.addi c0_i32_15 v19
  let c1_i32_5 : BitVec 32 := 1#32
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let v9 : BitVec 32 := Scalar.subi c1_i32_5 v5
  let c1_i32_16 : BitVec 32 := 1#32
  let v21 : BitVec 32 := Scalar.muli v9 c1_i32_16
  let v22 : BitVec 32 := Scalar.addi v20 v21
  v22.toNat
def k0_dev4 (d0 : Dev nD) : Nat :=
  let c0_i32_41 : BitVec 32 := 0#32
  let c1_i32_2 : BitVec 32 := 1#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let v6 : BitVec 32 := Scalar.subi c1_i32_2 v2
  let c2_i32_40 : BitVec 32 := 2#32
  let v61 : BitVec 32 := Scalar.muli v6 c2_i32_40
  let v62 : BitVec 32 := Scalar.addi c0_i32_41 v61
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c1_i32_42 : BitVec 32 := 1#32
  let v63 : BitVec 32 := Scalar.muli v5 c1_i32_42
  let v64 : BitVec 32 := Scalar.addi v62 v63
  v64.toNat
def k0_dev5 (d0 : Dev nD) : Nat :=
  let c0_i32_50 : BitVec 32 := 0#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let c2_i32_49 : BitVec 32 := 2#32
  let v71 : BitVec 32 := Scalar.muli v2 c2_i32_49
  let v72 : BitVec 32 := Scalar.addi c0_i32_50 v71
  let c1_i32_3 : BitVec 32 := 1#32
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let v7 : BitVec 32 := Scalar.subi c1_i32_3 v5
  let c1_i32_51 : BitVec 32 := 1#32
  let v73 : BitVec 32 := Scalar.muli v7 c1_i32_51
  let v74 : BitVec 32 := Scalar.addi v72 v73
  v74.toNat
def k0_dev6 (d0 : Dev nD) : Nat :=
  let c0_i32_59 : BitVec 32 := 0#32
  let c1_i32_4 : BitVec 32 := 1#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let v8 : BitVec 32 := Scalar.subi c1_i32_4 v2
  let c2_i32_58 : BitVec 32 := 2#32
  let v81 : BitVec 32 := Scalar.muli v8 c2_i32_58
  let v82 : BitVec 32 := Scalar.addi c0_i32_59 v81
  let c1_i32_5 : BitVec 32 := 1#32
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let v9 : BitVec 32 := Scalar.subi c1_i32_5 v5
  let c1_i32_60 : BitVec 32 := 1#32
  let v83 : BitVec 32 := Scalar.muli v9 c1_i32_60
  let v84 : BitVec 32 := Scalar.addi v82 v83
  v84.toNat
def k0_dev7 (d0 : Dev nD) : Nat :=
  let c0_i32_67 : BitVec 32 := 0#32
  let c1_i32_2 : BitVec 32 := 1#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let v6 : BitVec 32 := Scalar.subi c1_i32_2 v2
  let c2_i32_66 : BitVec 32 := 2#32
  let v91 : BitVec 32 := Scalar.muli v6 c2_i32_66
  let v92 : BitVec 32 := Scalar.addi c0_i32_67 v91
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c1_i32_68 : BitVec 32 := 1#32
  let v93 : BitVec 32 := Scalar.muli v5 c1_i32_68
  let v94 : BitVec 32 := Scalar.addi v92 v93
  v94.toNat
def k0_dev8 (d0 : Dev nD) : Nat :=
  let c0_i32_71 : BitVec 32 := 0#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let c2_i32_70 : BitVec 32 := 2#32
  let v99 : BitVec 32 := Scalar.muli v2 c2_i32_70
  let v100 : BitVec 32 := Scalar.addi c0_i32_71 v99
  let c1_i32_3 : BitVec 32 := 1#32
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let v7 : BitVec 32 := Scalar.subi c1_i32_3 v5
  let c1_i32_72 : BitVec 32 := 1#32
  let v101 : BitVec 32 := Scalar.muli v7 c1_i32_72
  let v102 : BitVec 32 := Scalar.addi v100 v101
  v102.toNat
def k0_dev9 (d0 : Dev nD) : Nat :=
  let c0_i32_75 : BitVec 32 := 0#32
  let c1_i32_4 : BitVec 32 := 1#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let v8 : BitVec 32 := Scalar.subi c1_i32_4 v2
  let c2_i32_74 : BitVec 32 := 2#32
  let v107 : BitVec 32 := Scalar.muli v8 c2_i32_74
  let v108 : BitVec 32 := Scalar.addi c0_i32_75 v107
  let c1_i32_5 : BitVec 32 := 1#32
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let v9 : BitVec 32 := Scalar.subi c1_i32_5 v5
  let c1_i32_76 : BitVec 32 := 1#32
  let v109 : BitVec 32 := Scalar.muli v9 c1_i32_76
  let v110 : BitVec 32 := Scalar.addi v108 v109
  v110.toNat
abbrev stage0_0 : Fin 1 → Memref sig .tc .vmem S2x64x64x64 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S3x3x64 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S64x64 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S2x64x64x64 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
-- ==== ReferenceIdeal.lean ====
abbrev S2x128x128x64 : Shape := ⟨4, ![2, 128, 128, 64]⟩
abbrev S3x3x64 : Shape := ⟨3, ![3, 3, 64]⟩
abbrev S64x64 : Shape := ⟨2, ![64, 64]⟩
abbrev S_ : Shape := ⟨0, ![]⟩
abbrev S2x64 : Shape := ⟨2, ![2, 64]⟩
abbrev S2x1x1x64 : Shape := ⟨4, ![2, 1, 1, 64]⟩
abbrev S1x128x128x64 : Shape := ⟨4, ![1, 128, 128, 64]⟩
abbrev S1x0x128x128x64 : Shape := ⟨5, ![1, 0, 128, 128, 64]⟩
abbrev S0x128x128x64 : Shape := ⟨4, ![0, 128, 128, 64]⟩
abbrev S2x1x128x64 : Shape := ⟨4, ![2, 1, 128, 64]⟩
abbrev S2x1x1x128x64 : Shape := ⟨5, ![2, 1, 1, 128, 64]⟩
abbrev S2x130x128x64 : Shape := ⟨4, ![2, 130, 128, 64]⟩
abbrev S2x130x1x64 : Shape := ⟨4, ![2, 130, 1, 64]⟩
abbrev S2x130x1x1x64 : Shape := ⟨5, ![2, 130, 1, 1, 64]⟩
abbrev S2x130x130x64 : Shape := ⟨4, ![2, 130, 130, 64]⟩
abbrev S2x130x130x1 : Shape := ⟨4, ![2, 130, 130, 1]⟩
abbrev S2x130x130x1x0 : Shape := ⟨5, ![2, 130, 130, 1, 0]⟩
abbrev S2x130x130x0 : Shape := ⟨4, ![2, 130, 130, 0]⟩
abbrev S1x1x64 : Shape := ⟨3, ![1, 1, 64]⟩
abbrev S64 : Shape := ⟨1, ![64]⟩
abbrev S1x1x1x64 : Shape := ⟨4, ![1, 1, 1, 64]⟩
abbrev S32768x64 : Shape := ⟨2, ![32768, 64]⟩

abbrev nBuf : Space → Nat
  | .hbm => 145
  | .vmem => 0
  | .smem => 0
  | _ => 0

abbrev hbmTy0_0 (i : Nat) : BufTy := match i % 128 with
  | 0 => ⟨S2x128x128x64, .f32⟩
  | 1 => ⟨S3x3x64, .f32⟩
  | 2 => ⟨S64x64, .f32⟩
  | 3 => ⟨S_, .f32⟩
  | 4 => ⟨S2x64, .f32⟩
  | 5 => ⟨S2x1x1x64, .f32⟩
  | 6 => ⟨S_, .f32⟩
  | 7 => ⟨S2x1x1x64, .f32⟩
  | 8 => ⟨S2x1x1x64, .f32⟩
  | 9 => ⟨S_, .i32⟩
  | 10 => ⟨S_, .f32⟩
  | 11 => ⟨S2x64, .f32⟩
  | 12 => ⟨S2x1x1x64, .f32⟩
  | 13 => ⟨S_, .f32⟩
  | 14 => ⟨S2x1x1x64, .f32⟩
  | 15 => ⟨S2x1x1x64, .f32⟩
  | 16 => ⟨S2x128x128x64, .f32⟩
  | 17 => ⟨S2x128x128x64, .f32⟩
  | 18 => ⟨S2x128x128x64, .f32⟩
  | 19 => ⟨S_, .f32⟩
  | 20 => ⟨S_, .f32⟩
  | 21 => ⟨S_, .f32⟩
  | 22 => ⟨S_, .f32⟩
  | 23 => ⟨S2x64, .f32⟩
  | 24 => ⟨S2x1x1x64, .f32⟩
  | 25 => ⟨S2x1x1x64, .f32⟩
  | 26 => ⟨S2x1x1x64, .f32⟩
  | 27 => ⟨S_, .f32⟩
  | 28 => ⟨S_, .i1⟩
  | 29 => ⟨S_, .f32⟩
  | 30 => ⟨S_, .f32⟩
  | 31 => ⟨S2x1x1x64, .f32⟩
  | 32 => ⟨S2x1x1x64, .f32⟩
  | 33 => ⟨S2x128x128x64, .f32⟩
  | 34 => ⟨S2x128x128x64, .f32⟩
  | 35 => ⟨S_, .f32⟩
  | 36 => ⟨S2x1x1x64, .f32⟩
  | 37 => ⟨S2x1x1x64, .f32⟩
  | 38 => ⟨S2x1x1x64, .f32⟩
  | 39 => ⟨S2x128x128x64, .f32⟩
  | 40 => ⟨S2x128x128x64, .f32⟩
  | 41 => ⟨S_, .i32⟩
  | 42 => ⟨S1x128x128x64, .f32⟩
  | 43 => ⟨S1x0x128x128x64, .f32⟩
  | 44 => ⟨S0x128x128x64, .f32⟩
  | 45 => ⟨S1x128x128x64, .f32⟩
  | 46 => ⟨S1x0x128x128x64, .f32⟩
  | 47 => ⟨S0x128x128x64, .f32⟩
  | 48 => ⟨S2x128x128x64, .f32⟩
  | 49 => ⟨S2x1x128x64, .f32⟩
  | 50 => ⟨S2x1x1x128x64, .f32⟩
  | 51 => ⟨S2x1x128x64, .f32⟩
  | 52 => ⟨S2x1x128x64, .f32⟩
  | 53 => ⟨S2x1x1x128x64, .f32⟩
  | 54 => ⟨S2x1x128x64, .f32⟩
  | 55 => ⟨S2x130x128x64, .f32⟩
  | 56 => ⟨S2x130x1x64, .f32⟩
  | 57 => ⟨S2x130x1x1x64, .f32⟩
  | 58 => ⟨S2x130x1x64, .f32⟩
  | 59 => ⟨S2x130x1x64, .f32⟩
  | 60 => ⟨S2x130x1x1x64, .f32⟩
  | 61 => ⟨S2x130x1x64, .f32⟩
  | 62 => ⟨S2x130x130x64, .f32⟩
  | 63 => ⟨S2x130x130x1, .f32⟩
  | 64 => ⟨S2x130x130x1x0, .f32⟩
  | 65 => ⟨S2x130x130x0, .f32⟩
  | 66 => ⟨S2x130x130x1, .f32⟩
  | 67 => ⟨S2x130x130x1x0, .f32⟩
  | 68 => ⟨S2x130x130x0, .f32⟩
  | 69 => ⟨S2x130x130x64, .f32⟩
  | 70 => ⟨S_, .f32⟩
  | 71 => ⟨S2x128x128x64, .f32⟩
  | 72 => ⟨S2x128x128x64, .f32⟩
  | 73 => ⟨S1x1x64, .f32⟩
  | 74 => ⟨S64, .f32⟩
  | 75 => ⟨S1x1x1x64, .f32⟩
  | 76 => ⟨S2x128x128x64, .f32⟩
  | 77 => ⟨S2x128x128x64, .f32⟩
  | 78 => ⟨S2x128x128x64, .f32⟩
  | 79 => ⟨S2x128x128x64, .f32⟩
  | 80 => ⟨S1x1x64, .f32⟩
  | 81 => ⟨S64, .f32⟩
  | 82 => ⟨S1x1x1x64, .f32⟩
  | 83 => ⟨S2x128x128x64, .f32⟩
  | 84 => ⟨S2x128x128x64, .f32⟩
  | 85 => ⟨S2x128x128x64, .f32⟩
  | 86 => ⟨S2x128x128x64, .f32⟩
  | 87 => ⟨S1x1x64, .f32⟩
  | 88 => ⟨S64, .f32⟩
  | 89 => ⟨S1x1x1x64, .f32⟩
  | 90 => ⟨S2x128x128x64, .f32⟩
  | 91 => ⟨S2x128x128x64, .f32⟩
  | 92 => ⟨S2x128x128x64, .f32⟩
  | 93 => ⟨S2x128x128x64, .f32⟩
  | 94 => ⟨S1x1x64, .f32⟩
  | 95 => ⟨S64, .f32⟩
  | 96 => ⟨S1x1x1x64, .f32⟩
  | 97 => ⟨S2x128x128x64, .f32⟩
  | 98 => ⟨S2x128x128x64, .f32⟩
  | 99 => ⟨S2x128x128x64, .f32⟩
  | 100 => ⟨S2x128x128x64, .f32⟩
  | 101 => ⟨S1x1x64, .f32⟩
  | 102 => ⟨S64, .f32⟩
  | 103 => ⟨S1x1x1x64, .f32⟩
  | 104 => ⟨S2x128x128x64, .f32⟩
  | 105 => ⟨S2x128x128x64, .f32⟩
  | 106 => ⟨S2x128x128x64, .f32⟩
  | 107 => ⟨S2x128x128x64, .f32⟩
  | 108 => ⟨S1x1x64, .f32⟩
  | 109 => ⟨S64, .f32⟩
  | 110 => ⟨S1x1x1x64, .f32⟩
  | 111 => ⟨S2x128x128x64, .f32⟩
  | 112 => ⟨S2x128x128x64, .f32⟩
  | 113 => ⟨S2x128x128x64, .f32⟩
  | 114 => ⟨S2x128x128x64, .f32⟩
  | 115 => ⟨S1x1x64, .f32⟩
  | 116 => ⟨S64, .f32⟩
  | 117 => ⟨S1x1x1x64, .f32⟩
  | 118 => ⟨S2x128x128x64, .f32⟩
  | 119 => ⟨S2x128x128x64, .f32⟩
  | 120 => ⟨S2x128x128x64, .f32⟩
  | 121 => ⟨S2x128x128x64, .f32⟩
  | 122 => ⟨S1x1x64, .f32⟩
  | 123 => ⟨S64, .f32⟩
  | 124 => ⟨S1x1x1x64, .f32⟩
  | 125 => ⟨S2x128x128x64, .f32⟩
  | 126 => ⟨S2x128x128x64, .f32⟩
  | 127 => ⟨S2x128x128x64, .f32⟩
  | _ => ⟨S2x128x128x64, .f32⟩

abbrev hbmTy0_1 (i : Nat) : BufTy := match i % 128 with
  | 0 => ⟨S2x128x128x64, .f32⟩
  | 1 => ⟨S1x1x64, .f32⟩
  | 2 => ⟨S64, .f32⟩
  | 3 => ⟨S1x1x1x64, .f32⟩
  | 4 => ⟨S2x128x128x64, .f32⟩
  | 5 => ⟨S2x128x128x64, .f32⟩
  | 6 => ⟨S2x128x128x64, .f32⟩
  | 7 => ⟨S2x128x128x64, .f32⟩
  | 8 => ⟨S2x128x128x64, .f32⟩
  | 9 => ⟨S_, .f32⟩
  | 10 => ⟨S2x128x128x64, .f32⟩
  | 11 => ⟨S2x128x128x64, .f32⟩
  | 12 => ⟨S2x128x128x64, .f32⟩
  | 13 => ⟨S32768x64, .f32⟩
  | 14 => ⟨S32768x64, .f32⟩
  | 15 => ⟨S2x128x128x64, .f32⟩
  | 16 => ⟨S2x128x128x64, .f32⟩
  | _ => ⟨S2x128x128x64, .f32⟩

abbrev hbmTy (i : Nat) : BufTy := match i / 128 with
  | 0 => hbmTy0_0 i
  | 1 => hbmTy0_1 i
  | _ => ⟨S2x128x128x64, .f32⟩

abbrev bufTy : (tb : Table) → Fin (tcTables nBuf tb) → BufTy
  | .hbm, ⟨i, _⟩ => hbmTy i
  | _, _ => ⟨S2x128x128x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_cst : Ref sig .tc := ⟨.hbm, 3, rfl⟩
abbrev main_v0 : Ref sig .tc := ⟨.hbm, 4, rfl⟩
abbrev main_v1 : Ref sig .tc := ⟨.hbm, 5, rfl⟩
abbrev main_cst_0 : Ref sig .tc := ⟨.hbm, 6, rfl⟩
abbrev main_v2 : Ref sig .tc := ⟨.hbm, 7, rfl⟩
abbrev main_v3 : Ref sig .tc := ⟨.hbm, 8, rfl⟩
abbrev main_c : Ref sig .tc := ⟨.hbm, 9, rfl⟩
abbrev main_call0_cst : Ref sig .tc := ⟨.hbm, 10, rfl⟩
abbrev main_call0_v0 : Ref sig .tc := ⟨.hbm, 11, rfl⟩
abbrev main_call0_v1 : Ref sig .tc := ⟨.hbm, 12, rfl⟩
abbrev main_call0_cst_0 : Ref sig .tc := ⟨.hbm, 13, rfl⟩
abbrev main_call0_v2 : Ref sig .tc := ⟨.hbm, 14, rfl⟩
abbrev main_call0_v3 : Ref sig .tc := ⟨.hbm, 15, rfl⟩
abbrev main_call0_v4 : Ref sig .tc := ⟨.hbm, 16, rfl⟩
abbrev main_call0_v5 : Ref sig .tc := ⟨.hbm, 17, rfl⟩
abbrev main_call0_v6 : Ref sig .tc := ⟨.hbm, 18, rfl⟩
abbrev main_call0_v7 : Ref sig .tc := ⟨.hbm, 19, rfl⟩
abbrev main_call0_cst_1 : Ref sig .tc := ⟨.hbm, 20, rfl⟩
abbrev main_call0_v8 : Ref sig .tc := ⟨.hbm, 21, rfl⟩
abbrev main_call0_cst_2 : Ref sig .tc := ⟨.hbm, 22, rfl⟩
abbrev main_call0_v9 : Ref sig .tc := ⟨.hbm, 23, rfl⟩
abbrev main_call0_v10 : Ref sig .tc := ⟨.hbm, 24, rfl⟩
abbrev main_call0_v11 : Ref sig .tc := ⟨.hbm, 25, rfl⟩
abbrev main_call0_v12 : Ref sig .tc := ⟨.hbm, 26, rfl⟩
abbrev main_call0_cst_3 : Ref sig .tc := ⟨.hbm, 27, rfl⟩
abbrev main_call0_v13 : Ref sig .tc := ⟨.hbm, 28, rfl⟩
abbrev main_call0_cst_4 : Ref sig .tc := ⟨.hbm, 29, rfl⟩
abbrev main_call0_call0_v0 : Ref sig .tc := ⟨.hbm, 30, rfl⟩
abbrev main_call0_call0_v1 : Ref sig .tc := ⟨.hbm, 31, rfl⟩
abbrev main_v4 : Ref sig .tc := ⟨.hbm, 32, rfl⟩
abbrev main_v5 : Ref sig .tc := ⟨.hbm, 33, rfl⟩
abbrev main_v6 : Ref sig .tc := ⟨.hbm, 34, rfl⟩
abbrev main_cst_1 : Ref sig .tc := ⟨.hbm, 35, rfl⟩
abbrev main_v7 : Ref sig .tc := ⟨.hbm, 36, rfl⟩
abbrev main_v8 : Ref sig .tc := ⟨.hbm, 37, rfl⟩
abbrev main_v9 : Ref sig .tc := ⟨.hbm, 38, rfl⟩
abbrev main_v10 : Ref sig .tc := ⟨.hbm, 39, rfl⟩
abbrev main_v11 : Ref sig .tc := ⟨.hbm, 40, rfl⟩
abbrev main_c_2 : Ref sig .tc := ⟨.hbm, 41, rfl⟩
abbrev main_call1_v0 : Ref sig .tc := ⟨.hbm, 42, rfl⟩
abbrev main_call1_v1 : Ref sig .tc := ⟨.hbm, 43, rfl⟩
abbrev main_call1_v2 : Ref sig .tc := ⟨.hbm, 44, rfl⟩
abbrev main_call1_v3 : Ref sig .tc := ⟨.hbm, 45, rfl⟩
abbrev main_call1_v4 : Ref sig .tc := ⟨.hbm, 46, rfl⟩
abbrev main_call1_v5 : Ref sig .tc := ⟨.hbm, 47, rfl⟩
abbrev main_call1_v6 : Ref sig .tc := ⟨.hbm, 48, rfl⟩
abbrev main_call1_v7 : Ref sig .tc := ⟨.hbm, 49, rfl⟩
abbrev main_call1_v8 : Ref sig .tc := ⟨.hbm, 50, rfl⟩
abbrev main_call1_v9 : Ref sig .tc := ⟨.hbm, 51, rfl⟩
abbrev main_call1_v10 : Ref sig .tc := ⟨.hbm, 52, rfl⟩
abbrev main_call1_v11 : Ref sig .tc := ⟨.hbm, 53, rfl⟩
abbrev main_call1_v12 : Ref sig .tc := ⟨.hbm, 54, rfl⟩
abbrev main_call1_v13 : Ref sig .tc := ⟨.hbm, 55, rfl⟩
abbrev main_call1_v14 : Ref sig .tc := ⟨.hbm, 56, rfl⟩
abbrev main_call1_v15 : Ref sig .tc := ⟨.hbm, 57, rfl⟩
abbrev main_call1_v16 : Ref sig .tc := ⟨.hbm, 58, rfl⟩
abbrev main_call1_v17 : Ref sig .tc := ⟨.hbm, 59, rfl⟩
abbrev main_call1_v18 : Ref sig .tc := ⟨.hbm, 60, rfl⟩
abbrev main_call1_v19 : Ref sig .tc := ⟨.hbm, 61, rfl⟩
abbrev main_call1_v20 : Ref sig .tc := ⟨.hbm, 62, rfl⟩
abbrev main_call1_v21 : Ref sig .tc := ⟨.hbm, 63, rfl⟩
abbrev main_call1_v22 : Ref sig .tc := ⟨.hbm, 64, rfl⟩
abbrev main_call1_v23 : Ref sig .tc := ⟨.hbm, 65, rfl⟩
abbrev main_call1_v24 : Ref sig .tc := ⟨.hbm, 66, rfl⟩
abbrev main_call1_v25 : Ref sig .tc := ⟨.hbm, 67, rfl⟩
abbrev main_call1_v26 : Ref sig .tc := ⟨.hbm, 68, rfl⟩
abbrev main_v12 : Ref sig .tc := ⟨.hbm, 69, rfl⟩
abbrev main_cst_3 : Ref sig .tc := ⟨.hbm, 70, rfl⟩
abbrev main_v13 : Ref sig .tc := ⟨.hbm, 71, rfl⟩
abbrev main_v14 : Ref sig .tc := ⟨.hbm, 72, rfl⟩
abbrev main_v15 : Ref sig .tc := ⟨.hbm, 73, rfl⟩
abbrev main_v16 : Ref sig .tc := ⟨.hbm, 74, rfl⟩
abbrev main_v17 : Ref sig .tc := ⟨.hbm, 75, rfl⟩
abbrev main_v18 : Ref sig .tc := ⟨.hbm, 76, rfl⟩
abbrev main_v19 : Ref sig .tc := ⟨.hbm, 77, rfl⟩
abbrev main_v20 : Ref sig .tc := ⟨.hbm, 78, rfl⟩
abbrev main_v21 : Ref sig .tc := ⟨.hbm, 79, rfl⟩
abbrev main_v22 : Ref sig .tc := ⟨.hbm, 80, rfl⟩
abbrev main_v23 : Ref sig .tc := ⟨.hbm, 81, rfl⟩
abbrev main_v24 : Ref sig .tc := ⟨.hbm, 82, rfl⟩
abbrev main_v25 : Ref sig .tc := ⟨.hbm, 83, rfl⟩
abbrev main_v26 : Ref sig .tc := ⟨.hbm, 84, rfl⟩
abbrev main_v27 : Ref sig .tc := ⟨.hbm, 85, rfl⟩
abbrev main_v28 : Ref sig .tc := ⟨.hbm, 86, rfl⟩
abbrev main_v29 : Ref sig .tc := ⟨.hbm, 87, rfl⟩
abbrev main_v30 : Ref sig .tc := ⟨.hbm, 88, rfl⟩
abbrev main_v31 : Ref sig .tc := ⟨.hbm, 89, rfl⟩
abbrev main_v32 : Ref sig .tc := ⟨.hbm, 90, rfl⟩
abbrev main_v33 : Ref sig .tc := ⟨.hbm, 91, rfl⟩
abbrev main_v34 : Ref sig .tc := ⟨.hbm, 92, rfl⟩
abbrev main_v35 : Ref sig .tc := ⟨.hbm, 93, rfl⟩
abbrev main_v36 : Ref sig .tc := ⟨.hbm, 94, rfl⟩
abbrev main_v37 : Ref sig .tc := ⟨.hbm, 95, rfl⟩
abbrev main_v38 : Ref sig .tc := ⟨.hbm, 96, rfl⟩
abbrev main_v39 : Ref sig .tc := ⟨.hbm, 97, rfl⟩
abbrev main_v40 : Ref sig .tc := ⟨.hbm, 98, rfl⟩
abbrev main_v41 : Ref sig .tc := ⟨.hbm, 99, rfl⟩
abbrev main_v42 : Ref sig .tc := ⟨.hbm, 100, rfl⟩
abbrev main_v43 : Ref sig .tc := ⟨.hbm, 101, rfl⟩
abbrev main_v44 : Ref sig .tc := ⟨.hbm, 102, rfl⟩
abbrev main_v45 : Ref sig .tc := ⟨.hbm, 103, rfl⟩
abbrev main_v46 : Ref sig .tc := ⟨.hbm, 104, rfl⟩
abbrev main_v47 : Ref sig .tc := ⟨.hbm, 105, rfl⟩
abbrev main_v48 : Ref sig .tc := ⟨.hbm, 106, rfl⟩
abbrev main_v49 : Ref sig .tc := ⟨.hbm, 107, rfl⟩
abbrev main_v50 : Ref sig .tc := ⟨.hbm, 108, rfl⟩
abbrev main_v51 : Ref sig .tc := ⟨.hbm, 109, rfl⟩
abbrev main_v52 : Ref sig .tc := ⟨.hbm, 110, rfl⟩
abbrev main_v53 : Ref sig .tc := ⟨.hbm, 111, rfl⟩
abbrev main_v54 : Ref sig .tc := ⟨.hbm, 112, rfl⟩
abbrev main_v55 : Ref sig .tc := ⟨.hbm, 113, rfl⟩
abbrev main_v56 : Ref sig .tc := ⟨.hbm, 114, rfl⟩
abbrev main_v57 : Ref sig .tc := ⟨.hbm, 115, rfl⟩
abbrev main_v58 : Ref sig .tc := ⟨.hbm, 116, rfl⟩
abbrev main_v59 : Ref sig .tc := ⟨.hbm, 117, rfl⟩
abbrev main_v60 : Ref sig .tc := ⟨.hbm, 118, rfl⟩
abbrev main_v61 : Ref sig .tc := ⟨.hbm, 119, rfl⟩
abbrev main_v62 : Ref sig .tc := ⟨.hbm, 120, rfl⟩
abbrev main_v63 : Ref sig .tc := ⟨.hbm, 121, rfl⟩
abbrev main_v64 : Ref sig .tc := ⟨.hbm, 122, rfl⟩
abbrev main_v65 : Ref sig .tc := ⟨.hbm, 123, rfl⟩
abbrev main_v66 : Ref sig .tc := ⟨.hbm, 124, rfl⟩
abbrev main_v67 : Ref sig .tc := ⟨.hbm, 125, rfl⟩
abbrev main_v68 : Ref sig .tc := ⟨.hbm, 126, rfl⟩
abbrev main_v69 : Ref sig .tc := ⟨.hbm, 127, rfl⟩
abbrev main_v70 : Ref sig .tc := ⟨.hbm, 128, rfl⟩
abbrev main_v71 : Ref sig .tc := ⟨.hbm, 129, rfl⟩
abbrev main_v72 : Ref sig .tc := ⟨.hbm, 130, rfl⟩
abbrev main_v73 : Ref sig .tc := ⟨.hbm, 131, rfl⟩
abbrev main_v74 : Ref sig .tc := ⟨.hbm, 132, rfl⟩
abbrev main_v75 : Ref sig .tc := ⟨.hbm, 133, rfl⟩
abbrev main_v76 : Ref sig .tc := ⟨.hbm, 134, rfl⟩
abbrev main_v77 : Ref sig .tc := ⟨.hbm, 135, rfl⟩
abbrev main_v78 : Ref sig .tc := ⟨.hbm, 136, rfl⟩
abbrev main_cst_4 : Ref sig .tc := ⟨.hbm, 137, rfl⟩
abbrev main_v79 : Ref sig .tc := ⟨.hbm, 138, rfl⟩
abbrev main_v80 : Ref sig .tc := ⟨.hbm, 139, rfl⟩
abbrev main_v81 : Ref sig .tc := ⟨.hbm, 140, rfl⟩
abbrev main_v82 : Ref sig .tc := ⟨.hbm, 141, rfl⟩
abbrev main_v83 : Ref sig .tc := ⟨.hbm, 142, rfl⟩
abbrev main_v84 : Ref sig .tc := ⟨.hbm, 143, rfl⟩
abbrev main_v85 : Ref sig .tc := ⟨.hbm, 144, rfl⟩

abbrev nD : Nat := 1
abbrev τ : Topo := Topo.v7x

variable {F : FTy → Type} [FloatOps F]
-- ==== Proof.Cells.lean ====
/-
# The exchange's places

Which device stands where on the 2×2 mesh, which buffers the six remote copies of a device read and
write, and which semaphores count them.
-/
module

public import proofs.«01_k».proof.Proof.Gen.KernelIdeal
public import proofs.«01_k».proof.Proof.Gen.KernelIdeal.Skeleton
public import proofs.«01_k».proof.Proof.Gen.KernelIdeal.Launch
public import Idealize.ShloMosaic.Lib.Pipeline.Launch
public import Idealize.ShloMosaic.Lib.Pipeline.Kit
public import Idealize.ShloMosaic.Lib.MemrefSat
public import Idealize.ShloMosaic.Lib.Ring.Trips
public import Idealize.ShloMosaic.Lib.Tactic

@[expose] public section

noncomputable section

namespace Cert.Exchange

open Cert.KernelIdeal Cert.KernelIdeal.Gen
open Idealize.ShloMosaic
open Idealize.ShloMosaic.TcCoe
open Idealize.SL Idealize.SL.RA

/-! ## The three neighbours -/

set_option backward.proofsInPublic true in
/-- Neighbour `j` of device `c`: 0 across the first mesh axis, 1 across the second, 2 across both. -/
def nbr (j : Fin 3) (c : Dev nD) : Dev nD := ⟨(c.val ^^^ (![2, 1, 3] : Fin 3 → ℕ) j) % 4, Nat.mod_lt _ (by decide)⟩

/-- Being neighbour `j` is mutual. -/
theorem nbr_nbr (j : Fin 3) (c : Dev nD) : nbr j (nbr j c) = c := by revert j c; decide

/-- Crossing the same way twice is a bijection of the mesh. -/
def cross (j : Fin 3) : Dev nD ≃ Dev nD := ⟨nbr j, nbr j, nbr_nbr j, nbr_nbr j⟩

/-- Which way copy `i` travels: copies 0, 1, 2 carry the statistics each way, 3, 4, 5 the row, the column and the corner. -/
abbrev dir (i : Fin 6) : Fin 3 := (![0, 1, 2, 0, 1, 2] : Fin 6 → Fin 3) i

/-- The device copy `i` of device `c` goes to. -/
abbrev peer (i : Fin 6) (c : Dev nD) : Dev nD := nbr (dir i) c

theorem peer_peer (i : Fin 6) (c : Dev nD) : peer i (peer i c) = c := nbr_nbr _ c

theorem dev1_nbr (c : Dev nD) : (⟨k0_dev1 c, k0_dev1_lt c⟩ : Dev nD) = nbr 0 c := Fin.ext ((k0_dev1_eq c).trans (by revert c; decide))
theorem dev2_nbr (c : Dev nD) : (⟨k0_dev2 c, k0_dev2_lt c⟩ : Dev nD) = nbr 1 c := Fin.ext ((k0_dev2_eq c).trans (by revert c; decide))
theorem dev3_nbr (c : Dev nD) : (⟨k0_dev3 c, k0_dev3_lt c⟩ : Dev nD) = nbr 2 c := Fin.ext ((k0_dev3_eq c).trans (by revert c; decide))
theorem dev4_nbr (c : Dev nD) : (⟨k0_dev4 c, k0_dev4_lt c⟩ : Dev nD) = peer 0 c := Fin.ext ((k0_dev4_eq c).trans (by revert c; decide))
theorem dev5_nbr (c : Dev nD) : (⟨k0_dev5 c, k0_dev5_lt c⟩ : Dev nD) = peer 1 c := Fin.ext ((k0_dev5_eq c).trans (by revert c; decide))
theorem dev6_nbr (c : Dev nD) : (⟨k0_dev6 c, k0_dev6_lt c⟩ : Dev nD) = peer 2 c := Fin.ext ((k0_dev6_eq c).trans (by revert c; decide))
theorem dev7_nbr (c : Dev nD) : (⟨k0_dev7 c, k0_dev7_lt c⟩ : Dev nD) = peer 3 c := Fin.ext ((k0_dev7_eq c).trans (by revert c; decide))
theorem dev8_nbr (c : Dev nD) : (⟨k0_dev8 c, k0_dev8_lt c⟩ : Dev nD) = peer 4 c := Fin.ext ((k0_dev8_eq c).trans (by revert c; decide))
theorem dev9_nbr (c : Dev nD) : (⟨k0_dev9 c, k0_dev9_lt c⟩ : Dev nD) = peer 5 c := Fin.ext ((k0_dev9_eq c).trans (by revert c; decide))

/-! ## The buffers of the copies -/

theorem slot_inb (j : Fin 3) : ∀ a, (![j.val, 0, 0, 0] : Fin 4 → ℕ) a + S1x2x2x64.size a ≤ S3x2x2x64.size a := by
  revert j; decide

/-- The rows of the landing array for statistics that neighbour `j`'s copy fills. -/
abbrev slotR (j : Fin 3) : Rect S3x2x2x64 := Rect.unit (s := S3x2x2x64) ![j.val, 0, 0, 0] S1x2x2x64.size (slot_inb j)

/-- Part `j` of the landing array for statistics, -/
abbrev slotB (j : Fin 3) : Memref sig .tc .vmem S1x2x2x64 .f32 :=
  (Memref.whole cc0_scratch1 : Memref sig .tc .vmem S3x2x2x64 .f32).slice (slotR j) (fun _ => rfl)

/-- and the same seen without its leading axis of one. -/
abbrev slotM (j : Fin 3) : Memref sig .tc .vmem S2x2x64 .f32 := (slotB j).squeeze S2x2x64 squeezes_S1x2x2x64_S2x2x64

/-- The shape copy `i` carries. -/
abbrev shp : Fin 6 → Shape
  | 0 => S2x2x64 | 1 => S2x2x64 | 2 => S2x2x64 | 3 => S2x64x64 | 4 => S2x64x64 | 5 => S2x64

/-- Where copy `i` reads on the sending device, -/
abbrev srcM : (i : Fin 6) → Memref sig .tc .vmem (shp i) .f32
  | 0 => Memref.whole cc0_scratch0 | 1 => Memref.whole cc0_scratch0 | 2 => Memref.whole cc0_scratch0
  | 3 => Memref.whole cc0_scratch2 | 4 => Memref.whole cc0_scratch3 | 5 => Memref.whole cc0_scratch4

/-- and where it writes on the receiving one. -/
abbrev dstM : (i : Fin 6) → Memref sig .tc .vmem (shp i) .f32
  | 0 => slotM 0 | 1 => slotM 1 | 2 => slotM 2
  | 3 => Memref.whole cc0_scratch5 | 4 => Memref.whole cc0_scratch6 | 5 => Memref.whole cc0_scratch7

/-- The share of its source a copy borrows: the statistics are read by three copies at once. -/
abbrev shr : Fin 6 → PosShare TreeShare
  | 0 => fullShare.left | 1 => fullShare.right.left | 2 => fullShare.right.right
  | 3 => fullShare | 4 => fullShare | 5 => fullShare

/-! ## The semaphores -/

theorem sem_inb (i : Fin 6) : ∀ a, (![i.val] : Fin 1 → ℕ) a + S1.size a ≤ S6.size a := by revert i; decide

/-- The semaphore every device signals its neighbours on before the copies. -/
abbrev barS : Sem sig := (SemArray.scalar (sig.barrier 0 rfl) : Sems sig S_).sem
/-- The semaphore copy `i` counts its departure on, -/
abbrev sendS (i : Fin 6) : DmaSem sig :=
  ((cc0_scratch8.slice (Rect.unit (s := S6) ![i.val] S1.size (sem_inb i))).squeeze S_ squeezes_S1_S_).sem
/-- and its arrival. -/
abbrev recvS (i : Fin 6) : DmaSem sig :=
  ((cc0_scratch9.slice (Rect.unit (s := S6) ![i.val] S1.size (sem_inb i))).squeeze S_ squeezes_S1_S_).sem

/-- The kernel's scoped semaphores, `true` for the arrivals, -/
abbrev osem : Bool × Fin 6 → SemLoc sig
  | (false, i) => .dma (sendS i) | (true, i) => .dma (recvS i)
/-- and with the barrier all semaphores of the exchange. -/
abbrev csem : Option (Bool × Fin 6) → SemLoc sig
  | none => .reg barS | some k => osem k

abbrev barCell (c : Dev nD) : GSem nD τ sig := ((c : Thread nD τ), .reg barS)
abbrev sendCell (i : Fin 6) (c : Dev nD) : GSem nD τ sig := ((c : Thread nD τ), .dma (sendS i))
abbrev recvCell (i : Fin 6) (c : Dev nD) : GSem nD τ sig := ((c : Thread nD τ), .dma (recvS i))
abbrev kcell (ck : Dev nD × Option (Bool × Fin 6)) : GSem nD τ sig := ((ck.1 : Thread nD τ), csem ck.2)

theorem sendS_val (i : Fin 6) : (sendS i).val = 4 + i.val := by revert i; decide
theorem recvS_val (i : Fin 6) : (recvS i).val = 10 + i.val := by revert i; decide

theorem sendS_inj {i i' : Fin 6} (h : sendS i = sendS i') : i = i' := by
  have := congrArg Fin.val h; rw [sendS_val, sendS_val] at this; exact Fin.ext (by omega)
theorem recvS_inj {i i' : Fin 6} (h : recvS i = recvS i') : i = i' := by
  have := congrArg Fin.val h; rw [recvS_val, recvS_val] at this; exact Fin.ext (by omega)
theorem sendS_ne_recvS (i i' : Fin 6) : sendS i ≠ recvS i' := fun h => by
  have := congrArg Fin.val h; rw [sendS_val, recvS_val] at this; omega

theorem osem_injective : Function.Injective osem := by
  rintro ⟨_ | _, i⟩ ⟨_ | _, i'⟩ h
  · rw [sendS_inj (SemLoc.dma.inj h)]
  · exact absurd (SemLoc.dma.inj h) (sendS_ne_recvS _ _)
  · exact absurd (SemLoc.dma.inj h).symm (sendS_ne_recvS _ _)
  · rw [recvS_inj (SemLoc.dma.inj h)]

theorem osem_ne_bar (k : Bool × Fin 6) : osem k ≠ .reg barS := by rcases k with ⟨_ | _, i⟩ <;> exact fun h => by cases h

theorem csem_injective : Function.Injective csem := by
  rintro (_ | k) (_ | k') h
  · rfl
  · exact absurd h.symm (osem_ne_bar k')
  · exact absurd h (osem_ne_bar k)
  · rw [osem_injective h]

theorem kcell_injective : Function.Injective kcell := by
  rintro ⟨c, k⟩ ⟨c', k'⟩ h
  have h1 : c = c' := congrArg (fun g : GSem nD τ sig => g.1.1) h
  subst h1
  exact congrArg (Prod.mk c) (csem_injective (congrArg Prod.snd h))

/-- What copy `i` credits its two semaphores with. -/
abbrev amt (i : Fin 6) : ℕ := (dstM i).view.dmaCredit

theorem amt_pos (i : Fin 6) : 0 < amt i := by
  fin_cases i <;> exact View.dmaCredit_pos _ (by decide)

/-- A copy's source counts as much as its destination. -/
theorem amt_src (i : Fin 6) : (srcM i).view.dmaCredit = amt i := by fin_cases i <;> rfl

theorem ownSemFacts : Pipeline.OwnSemFacts cfg0.spec osem := by decide

end Cert.Exchange

end
-- ==== Proof.Protocol.lean ====
/-
# The exchange's protocol

What each device sends, what every semaphore of the exchange hands over and to whom, what a device
owes when it starts, and the rules the kernel's body is run by: one for a signal, one for the wait on
the barrier, one for a copy, one for the wait on a copy's departure, one for that on its arrival.
-/
module

public import proofs.«01_k».proof.Proof.Cells

@[expose] public section

noncomputable section

namespace Cert.Exchange

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

/-! ## The resource algebra: the pipeline library's part and the exchange's, whose duties are named by the neighbours -/

abbrev UX : Type := URounds (GSem nD τ sig) (Fin 3)
abbrev UU : Type := UR sig nD τ × UX

local notation "𝕄" => MT nD τ sig Unit (Elt F) ℕ UU ℕ

abbrev EP : Emb (UR sig nD τ) (MT nD τ sig Unit (Elt F) ℕ UU ℕ) := embL
abbrev ER : Emb UX (MT nD τ sig Unit (Elt F) ℕ UU ℕ) := embR

abbrev 𝒱₀ : Variants := Variants.none

/-! ## What is sent -/

/-- A device's coordinate along the first mesh axis, as the kernel computes it, -/
abbrev pxW (c : Dev nD) : BitVec 32 := Scalar.remsi (Scalar.divsi (Dev.word c) 2#32) 2#32
/-- and along the second. -/
abbrev pyW (c : Dev nD) : BitVec 32 := Scalar.remsi (Scalar.divsi (Dev.word c) 1#32) 2#32

/-- The statistics of a block: its sums in row 0, the sums of its squares in row 1. -/
def statOf (x : Vec F S2x64x64x64 .f32) : Vec F S2x2x64 .f32 := fun k =>
  if (k 0).val = 0 then k0_pay7 (k0_pay2 x) (Fin.cons (0 : Fin 1) fun a => k a.succ)
  else k0_pay8 (k0_pay2 x) (Fin.cons (0 : Fin 1) fun a => k a.succ)

/-- What copy `i` of device `c` carries, when the devices' blocks are `X`. -/
abbrev sent (X : Dev nD → Vec F S2x64x64x64 .f32) : (i : Fin 6) → Dev nD → (shp i).Idx → Elt F .f32
  | 0, c => statOf (X c) | 1, c => statOf (X c) | 2, c => statOf (X c)
  | 3, c => k0_pay4 (k0_pay3 c (X c))
  | 4, c => k0_pay5 (pyW c) (k0_pay2 (X c))
  | 5, c => k0_pay6 (pyW c) (k0_pay3 c (X c))

variable (X : Dev nD → Vec F S2x64x64x64 .f32)

/-! ## The schedule -/

/-- The place copy `i` lands in on device `c`, at any contents. -/
def landing (i : Fin 6) (c : Dev nD) : sProp 𝕄 := ownsSat (c : Thread nD τ) (dstM i) fullShare (fun _ => True)

/-- The copies that travel way `j`: the statistics' -/
abbrev lo : Fin 3 → Fin 6 := ![0, 1, 2]
/-- and the other. -/
abbrev hi : Fin 3 → Fin 6 := ![3, 4, 5]

/-- What neighbour `j`'s signal hands device `c`: the two places on that neighbour `c`'s copies will fill. -/
def barPay (j : Fin 3) (c : Dev nD) : sProp 𝕄 := iprop(landing (F := F) (lo j) (nbr j c) ∗ landing (F := F) (hi j) (nbr j c))

/-- The source of copy `i` comes back unchanged; -/
def sendPay (i : Fin 6) (c : Dev nD) : sProp 𝕄 := owns (c : Thread nD τ) (srcM i) (shr i) (sent X i c)
/-- its landing place comes with what the neighbour sent. -/
def recvPay (i : Fin 6) (c : Dev nD) : sProp 𝕄 := owns (c : Thread nD τ) (dstM i) fullShare (sent X i (peer i c))

instance landing_storable (i : Fin 6) (c : Dev nD) : BI.Storable (upEmb : UEmb _ 𝕄) (landing (F := F) i c) := by
  unfold landing; infer_instance
instance barPay_storable (j : Fin 3) (c : Dev nD) : BI.Storable (upEmb : UEmb _ 𝕄) (barPay (F := F) j c) := by
  unfold barPay; infer_instance
instance sendPay_storable (i : Fin 6) (c : Dev nD) : BI.Storable (upEmb : UEmb _ 𝕄) (sendPay X i c) := by
  unfold sendPay; infer_instance
instance recvPay_storable (i : Fin 6) (c : Dev nD) : BI.Storable (upEmb : UEmb _ 𝕄) (recvPay X i c) := by
  unfold recvPay; infer_instance

/-- The duties of a cell, by which of the exchange's semaphores it is, -/
def dutiesOf : Option (Bool × Fin 6) → Finset (Fin 3)
  | none => Finset.univ | some _ => {0}
/-- how much each pays, -/
def amountOf : Option (Bool × Fin 6) → ℕ
  | none => 1 | some (_, i) => amt i
/-- and what it hands over. -/
def payOf (c : Dev nD) (d : Fin 3) : Option (Bool × Fin 6) → sProp 𝕄
  | none => barPay d c | some (false, i) => sendPay X i c | some (true, i) => recvPay X i c

instance payOf_storable (c : Dev nD) (d : Fin 3) (k : Option (Bool × Fin 6)) : BI.Storable (upEmb : UEmb _ 𝕄) (payOf X c d k) := by
  rcases k with _ | ⟨_ | _, i⟩ <;> unfold payOf <;> infer_instance

theorem amountOf_pos (k : Option (Bool × Fin 6)) : 0 < amountOf k := by
  rcases k with _ | ⟨_, i⟩
  · exact Nat.one_pos
  · exact amt_pos i

/-- Which of the exchange's semaphores a location is, if it is one. -/
abbrev which (s : SemLoc sig) : Option (Option (Bool × Fin 6)) := Function.partialInv csem s

theorem which_csem (k : Option (Bool × Fin 6)) : which (csem k) = some k := Function.partialInv_left csem_injective k

/-- The exchange's schedule: every cell has one round. -/
def Rd : Rounds.Schedule (GSem nD τ sig) (Fin 3) 𝕄 where
  duties g r := if r = 0 ∧ g.1.2 = .tc then (which g.2).elim ∅ dutiesOf else ∅
  unitless _ := False
  amount g _ _ := (which g.2).elim 1 amountOf
  payload g _ d := (which g.2).elim iprop(emp) (payOf X g.1.1 d)
  amount_pos g _ _ _ := by
    cases which g.2 with
    | none => exact Nat.one_pos
    | some k => exact amountOf_pos k

instance Rd_payload_storable (g : GSem nD τ sig) (r : ℕ) (d : Fin 3) :
    BI.Storable (upEmb : UEmb _ 𝕄) ((Rd X).payload g r d) := by
  show BI.Storable upEmb ((which g.2).elim iprop(emp) (payOf X g.1.1 d))
  cases which g.2 <;> dsimp only [Option.elim] <;> infer_instance

section Cell

variable (c : Dev nD) (k : Option (Bool × Fin 6))

theorem duties_cell : (Rd X).duties (kcell (c, k)) 0 = dutiesOf k := by
  refine (if_pos ⟨rfl, rfl⟩ : (if 0 = 0 ∧ (kcell (c, k)).1.2 = .tc then (which (csem k)).elim ∅ dutiesOf else ∅) = _).trans ?_
  rw [which_csem]; rfl

theorem duties_later (g : GSem nD τ sig) : ∀ r, 1 ≤ r → (Rd X).duties g r = ∅ :=
  fun r hr => if_neg fun h => by omega

theorem amount_cell (d : Fin 3) : (Rd X).amount (kcell (c, k)) 0 d = amountOf k := by
  show (which (csem k)).elim 1 amountOf = _
  rw [which_csem]; rfl

theorem payload_cell (d : Fin 3) : (Rd X).payload (kcell (c, k)) 0 d = payOf X c d k := by
  show (which (csem k)).elim iprop(emp) (payOf X c d) = _
  rw [which_csem]; rfl

theorem expect_cell : (Rd X).expect (kcell (c, k)) 0 = (dutiesOf k).card * amountOf k := by
  unfold Schedule.expect Schedule.amountOf
  rw [duties_cell, Finset.sum_congr rfl fun d _ => amount_cell X c k d, Finset.sum_const, smul_eq_mul]

theorem rest_cell : bigSep ((Rd X).duties (kcell (c, k)) 0 \ ∅) (fun d => (Rd X).payload (kcell (c, k)) 0 d)
    = bigSep (dutiesOf k) fun d => payOf X c d k := by
  rw [Finset.sdiff_empty, duties_cell]; exact bigSep_congr fun d _ => payload_cell X c k d

end Cell

theorem bigSep_three (Φ : Fin 3 → sProp 𝕄) : bigSep Finset.univ Φ = iprop(Φ 0 ∗ Φ 1 ∗ Φ 2) :=
  bigSep_univ_eq_bigSepL [0, 1, 2] (by decide) (by decide) Φ
theorem bigSep_six (Φ : Fin 6 → sProp 𝕄) : bigSep Finset.univ Φ = iprop(Φ 0 ∗ Φ 1 ∗ Φ 2 ∗ Φ 3 ∗ Φ 4 ∗ Φ 5) :=
  bigSep_univ_eq_bigSepL [0, 1, 2, 3, 4, 5] (by decide) (by decide) Φ

/-! ## What a device owes -/

/-- The credit copy `i` of device `c` pays at its destination, -/
def xfer (i : Fin 6) (c : Dev nD) : CellTallies nD τ sig Unit := tallyAt (recvCell i (peer i c)) () (amt i)
/-- and the unit its signal to neighbour `j` pays. -/
def unit1 (j : Fin 3) (c : Dev nD) : CellTallies nD τ sig Unit := tallyAt (barCell (nbr j c)) () 1

/-- The debt of the last `n` copies, -/
def dueX (c : Dev nD) : ℕ → CellTallies nD τ sig Unit
  | 0 => 0
  | n + 1 => dueX c n + xfer (Fin.ofNat 6 (5 - n)) c
/-- and of those and the last `n` signals. -/
def dueB (c : Dev nD) : ℕ → CellTallies nD τ sig Unit
  | 0 => dueX c 6
  | n + 1 => dueB c n + unit1 (Fin.ofNat 3 (2 - n)) c

/-- All a device owes at launch. -/
def O₀ (c : Dev nD) : CellTallies nD τ sig Unit := dueB c 3

theorem O₀_eq (c : Dev nD) : O₀ c = (∑ i, xfer i c) + ∑ j, unit1 j c := by
  show ((((((((0 + xfer 5 c) + xfer 4 c) + xfer 3 c) + xfer 2 c) + xfer 1 c) + xfer 0 c) + unit1 2 c) + unit1 1 c) + unit1 0 c = _
  rw [Fin.sum_univ_six, Fin.sum_univ_three, zero_add]
  ac_rfl

def L (g : GSem nD τ sig) : Finset Unit := if g.1.2 = .tc then {()} else ∅
/-- The barrier is waited on first, the arrivals later; nothing waits behind the departures and the staging. -/
def lvOf : Option (Option (Bool × Fin 6)) → ℕ
  | some none => 1 | some (some (true, _)) => 2 | _ => 0
def lv (g : GSem nD τ sig) (_ : Unit) : ℕ := lvOf (which g.2)

theorem L_of_ne (g : GSem nD τ sig) (h : g.1.2 ≠ .tc) : L g = ∅ := if_neg h
theorem L_tc (c : Dev nD) (sm : SemLoc sig) : L ((c : Thread nD τ), sm) = {()} := if_pos rfl
theorem mem_L (c : Dev nD) (sm : SemLoc sig) (u : Unit) : u ∈ L ((c : Thread nD τ), sm) := by
  rw [L_tc]; exact Finset.mem_singleton_self _

theorem lv_kcell (ck : Dev nD × Option (Bool × Fin 6)) (u : Unit) : lv (kcell ck) u = lvOf (some ck.2) := by
  show lvOf (which (csem ck.2)) = _; rw [which_csem]

theorem tally_pos {g g' : GSem nD τ sig} {u : Unit} {n : ℕ} (h : 0 < (tallyAt g' () n : CellTallies nD τ sig Unit) g u) : g = g' := by
  rw [tallyAt_apply] at h
  by_contra hn
  rw [if_neg (fun h' => hn h'.1)] at h
  exact Nat.lt_irrefl 0 h

theorem dueX_pos {c : Dev nD} {n : ℕ} {g : GSem nD τ sig} {u : Unit} (h : 0 < dueX c n g u) : ∃ i, g = recvCell i (peer i c) := by
  induction n with
  | zero => exact absurd h (Nat.lt_irrefl 0)
  | succ n ih =>
    unfold dueX at h
    rw [Pi.add_apply, Finsupp.add_apply] at h
    rcases Nat.pos_iff_ne_zero.mp h |> fun h' => (by omega : 0 < dueX c n g u ∨ 0 < xfer (Fin.ofNat 6 (5 - n)) c g u) with h' | h'
    · exact ih h'
    · exact ⟨_, tally_pos h'⟩

theorem dueB_pos {c : Dev nD} {n : ℕ} {g : GSem nD τ sig} {u : Unit} (h : 0 < dueB c n g u) :
    (∃ i, g = recvCell i (peer i c)) ∨ ∃ j, g = barCell (nbr j c) := by
  induction n with
  | zero => exact Or.inl (dueX_pos h)
  | succ n ih =>
    unfold dueB at h
    rw [Pi.add_apply, Finsupp.add_apply] at h
    rcases Nat.pos_iff_ne_zero.mp h |> fun h' => (by omega : 0 < dueB c n g u ∨ 0 < unit1 (Fin.ofNat 3 (2 - n)) c g u) with h' | h'
    · exact ih h'
    · exact Or.inr ⟨_, tally_pos h'⟩

/-- A staging semaphore may be waited on whatever of its launch debt a device owes. -/
theorem mayWait_stage (c : Dev nD) (q : DmaSem sig) (hq : ∀ i, q ≠ recvS i) (O : CellTallies nD τ sig Unit) (hO : O = O₀ c ∨ O = 0) :
    (levAts L lv : sProp 𝕄) ⊢ MayWait (c : Thread nD τ) (.dma q) () O := by
  have hlow : lv ((c : Thread nD τ), SemLoc.dma q) () ≤ 0 := by
    show lvOf (which (SemLoc.dma q)) ≤ 0
    rcases hw : which (SemLoc.dma q) with _ | (_ | ⟨_ | _, i⟩)
    · exact le_refl _
    · have := (Function.partialInv_of_injective csem_injective _ _).mp hw; cases this
    · exact le_refl _
    · have h := (Function.partialInv_of_injective csem_injective _ _).mp hw
      exact absurd (SemLoc.dma.inj h).symm (hq i)
  rcases hO with rfl | rfl
  · refine MayOwe.of_cut (L := L) (lev := lv) 0 (fun p hp => by rw [Finset.mem_singleton.mp hp]; exact mem_L _ _ _) ?_
      (fun p hp => by rw [Finset.mem_singleton.mp hp]; exact hlow) ?_
    · intro g u hg
      rcases dueB_pos hg with ⟨i, rfl⟩ | ⟨j, rfl⟩ <;> exact mem_L _ _ _
    · intro g u hg
      rcases dueB_pos hg with ⟨i, rfl⟩ | ⟨j, rfl⟩
      · rw [show recvCell i (peer i c) = kcell (peer i c, some (true, i)) from rfl, lv_kcell]; exact Nat.zero_lt_succ 1
      · rw [show barCell (nbr j c) = kcell (nbr j c, none) from rfl, lv_kcell]; exact Nat.zero_lt_succ 0
  · rw [MayWait_zero]; iintro -; iempintro

/-- The barrier may be waited on while the copies are owed. -/
theorem mayWait_bar (c : Dev nD) (n : ℕ) : (levAts L lv : sProp 𝕄) ⊢ MayWait (c : Thread nD τ) (.reg barS) () (dueX c n) :=
  MayOwe.of_cut (L := L) (lev := lv) 1 (fun p hp => by rw [Finset.mem_singleton.mp hp]; exact mem_L _ _ _)
    (fun g u hg => by obtain ⟨i, rfl⟩ := dueX_pos hg; exact mem_L _ _ _)
    (fun p hp => by
      rw [Finset.mem_singleton.mp hp, show ((c : Thread nD τ), SemLoc.reg barS) = kcell (c, none) from rfl, lv_kcell]; exact le_refl _)
    (fun g u hg => by
      obtain ⟨i, rfl⟩ := dueX_pos hg
      rw [show recvCell i (peer i c) = kcell (peer i c, some (true, i)) from rfl, lv_kcell]; exact Nat.lt_succ_self 1)

/-! ## What every device knows: the cells' invariants, and that each has started -/

variable (K : Dev nD × Option (Bool × Fin 6) → ℕ)

def records : sProp 𝕄 :=
  iprop((bigSep Finset.univ fun ck => cellInv ER (Rd X) (K ck) (kcell ck)) ∗ bigSep Finset.univ fun ck => reached ER (kcell ck) 0)

instance records_persistent : BI.Persistent (records X K) := by unfold records; infer_instance

theorem inv_at (ck : Dev nD × Option (Bool × Fin 6)) :
    (bigSep Finset.univ fun ck => (cellInv ER (Rd X) (K ck) (kcell ck) : sProp 𝕄)) ⊢ cellInv ER (Rd X) (K ck) (kcell ck) :=
  bigSep_elim (Finset.mem_univ ck)
theorem reached_at (ck : Dev nD × Option (Bool × Fin 6)) :
    (bigSep Finset.univ fun ck => (reached ER (kcell ck) 0 : sProp 𝕄)) ⊢ reached ER (kcell ck) 0 :=
  bigSep_elim (Finset.mem_univ ck)

theorem records_inv (ck : Dev nD × Option (Bool × Fin 6)) : records X K ⊢ cellInv ER (Rd X) (K ck) (kcell ck) := by
  unfold records; iintro ⟨H, -⟩; iapply (inv_at X K ck); iexact H
theorem records_reached (ck : Dev nD × Option (Bool × Fin 6)) : records X K ⊢ reached ER (kcell ck) 0 := by
  unfold records; iintro ⟨-, H⟩; iapply (reached_at (F := F) ck); iexact H

/-- A device's debt, at whatever waits it has done. -/
def owing (c : Dev nD) (O : CellTallies nD τ sig Unit) : sProp 𝕄 := iprop(∃ W, owes (c : Thread nD τ) O W)

/-! ## The rules -/

section Rules

variable {α : Type} {k : PUnit → Prog (TpuEff nD τ sig (Elt F) Λ₀ .tc) α}

/-- A signal to neighbour `j` hands it the two places here that its copies will fill. -/
theorem wp_signal_nbr (j : Fin 3) (c n : Dev nD) (hn : n = nbr j c) {a b : Fin 6} (ha : lo j = a) (hb : hi j = b)
    {O' : CellTallies nD τ sig Unit} (O : CellTallies nD τ sig Unit) (hO : O' = O + unit1 j c) {Q : α → sProp 𝕄} :
    iprop(records X K ∗ owing c O' ∗ dutyTok ER (barCell (nbr j c)) 0 j ∗ landing (F := F) a c ∗ landing (F := F) b c)
      ⊢ iprop((owing c O -∗ wp frame (wpE (defs₀ (F := F)) 𝒱₀ (c : Thread nD τ) none) Set.univ (k ⟨⟩) Q)
          -∗ wp frame (wpE (defs₀ (F := F)) 𝒱₀ (c : Thread nD τ) none) Set.univ (.op (.semSignal (n : Thread nD τ) barS (1#32).toNat) k) Q) := by
  subst hn ha hb hO
  unfold owing
  iintro ⟨#HR, ⟨%W, HO⟩, Ht, Hl, Hh⟩ Hk
  iapply (Rounds.wp_signal 𝒱₀ ER (Rd X) (c : Thread nD τ) none (dst := (nbr j c : Thread nD τ)) (κ := K (nbr j c, none))
      (r := 0) (d := j) (by rw [show ((nbr j c : Thread nD τ), SemLoc.reg barS) = kcell (nbr j c, none) from rfl, duties_cell]; exact Finset.mem_univ _)
      ((amount_cell X (nbr j c) none j).trans (by decide)) () O rfl) $$ [HO Ht Hl Hh]
  · isplitr; · iapply (records_inv X K (nbr j c, none)); iexact HR
    isplitl [HO]; · iexact HO
    isplitl [Ht]; · iexact Ht
    isplitl
    · rw [payload_cell X (nbr j c) none j, show payOf X (nbr j c) j none = barPay j (nbr j c) from rfl]
      unfold barPay; rw [nbr_nbr]
      isplitl [Hl] <;> iassumption
    iapply (records_reached X K (nbr j c, none)); iexact HR
  iintro HO
  iapply Hk
  iexists W; iexact HO

/-- The wait on the barrier brings the six places the device's own copies fill; its counter is then zero for good. -/
theorem wp_wait_bar (c : Dev nD) (n : ℕ) {Q : α → sProp 𝕄} :
    iprop(records X K ∗ levAts L lv ∗ cred (tallyAt (barCell c) () 3) ∗ owing c (dueX c n) ∗ atPos ER (barCell c) 0 ∅ 0)
      ⊢ iprop((iprop(owing c (dueX c n) ∗ semVal (barCell c) 0
              ∗ (landing (F := F) 0 (peer 0 c) ∗ landing (F := F) 3 (peer 3 c)) ∗ (landing (F := F) 1 (peer 1 c) ∗ landing (F := F) 4 (peer 4 c))
              ∗ (landing (F := F) 2 (peer 2 c) ∗ landing (F := F) 5 (peer 5 c)))
            -∗ wp frame (wpE (defs₀ (F := F)) 𝒱₀ (c : Thread nD τ) none) Set.univ (k ⟨⟩) Q)
          -∗ wp frame (wpE (defs₀ (F := F)) 𝒱₀ (c : Thread nD τ) none) Set.univ (.op (.semWait barS (3#32).toNat) k) Q) := by
  unfold owing
  iintro ⟨#HR, #Hlev, Hc, ⟨%W, HO⟩, Hat⟩ Hk
  iapply (Rounds.wp_wait_rest_token 𝒱₀ ER (Rd X) (c : Thread nD τ) none (κ := K (c, none))
      (wpE_semWait_eq 𝒱₀ (c : Thread nD τ) none Set.univ) (Set.mem_univ _) () (O := dueX c n) (W := W) (R := 0) (m := 0) (T := ∅)
      (by rw [show ((c : Thread nD τ), SemLoc.reg barS) = kcell (c, none) from rfl, expect_cell]; decide)) $$ [Hc HO Hat]
  · isplitr; · iapply (records_inv X K (c, none)); iexact HR
    isplitl [Hc]; · iexact Hc
    isplitl [HO]; · iexact HO
    isplitr; · iapply (mayWait_bar c n); iexact Hlev
    iexact Hat
  iintro ⟨HO, Hat, -, Hpay⟩
  ihave Hp := (Entails.of_eq ((rest_cell X c none).trans ((bigSep_three fun d => payOf X c d none).trans rfl : _
      = iprop((landing (F := F) 0 (peer 0 c) ∗ landing (F := F) 3 (peer 3 c)) ∗ (landing (F := F) 1 (peer 1 c) ∗ landing (F := F) 4 (peer 4 c))
              ∗ (landing (F := F) 2 (peer 2 c) ∗ landing (F := F) 5 (peer 5 c)))))) $$ Hpay
  icases Hp with ⟨H0, H1, H2⟩
  imod (Rounds.cell_close ER (Rd X) (Set.mem_univ (K (c, none))) (fun h => h) (R := 0 + 1) (duties_later X (kcell (c, none)))) $$ [Hat] with Hz
  · isplitr; · iapply (records_inv X K (c, none)); iexact HR
    iexact Hat
  iapply Hk
  isplitl [HO]; · iexists _; iexact HO
  isplitl [Hz]; · iexact Hz
  isplitl [H0]; · iexact H0
  isplitl [H1] <;> iassumption

/-- Copy `i`: the source at what it carries and the landing place go in, the credit for the departure comes out. -/
theorem wp_copy (i : Fin 6) (c n : Dev nD) (hn : n = peer i c)
    {hsc : (dstM i : Memref sig (Dev.tc n : Thread nD τ).2.kind .vmem (shp i) .f32).view.ref.isScScratch = false}
    {hsrc : (srcM i).view.WordExact} {hdst : (dstM i).view.WordExact}
    {hsem : DmaTarget.Typed .vmem (.dma (recvS i)) (.remote (Dev.tc n : Thread nD τ) (dstM i) (.dma (sendS i)) hsc)}
    {O' : CellTallies nD τ sig Unit} (O : CellTallies nD τ sig Unit) (hO : O' = O + xfer i c) {Q : α → sProp 𝕄} :
    iprop(records X K ∗ sendPay X i c ∗ landing (F := F) i (peer i c) ∗ owing c O'
        ∗ dutyTok ER (sendCell i c) 0 0 ∗ dutyTok ER (recvCell i (peer i c)) 0 0)
      ⊢ iprop((iprop(cred (tallyAt (sendCell i c) () (amt i)) ∗ owing c O)
            -∗ wp frame (wpE (defs₀ (F := F)) 𝒱₀ (c : Thread nD τ) none) Set.univ (k ⟨⟩) Q)
          -∗ wp frame (wpE (defs₀ (F := F)) 𝒱₀ (c : Thread nD τ) none) Set.univ
              (.op (.enqueueDma (srcM i) (.remote (Dev.tc n : Thread nD τ) (dstM i) (.dma (sendS i)) hsc) (.dma (recvS i)) hsrc hdst hsem) k) Q) := by
  subst hn hO
  unfold owing sendPay landing owns ownsSat
  iintro ⟨#HR, ⟨%fs, %hfs, Hs⟩, ⟨%fd, -, Hd⟩, ⟨%W, HO⟩, Hts, Htr⟩ Hk
  iapply (Rounds.wp_send_pointsTo 𝒱₀ ER (Rd X) (c : Thread nD τ) none (κ₁ := K (c, some (false, i))) (κ₂ := K (peer i c, some (true, i)))
    (r₁ := 0) (r₂ := 0) (d₁ := 0) (d₂ := 0) (fs := fs) (fd := fd) (q := shr i)
    (by rw [show ((c : Thread nD τ), SemLoc.dma (sendS i)) = kcell (c, some (false, i)) from rfl, duties_cell]; exact Finset.mem_singleton_self _)
    (by rw [show ((peer i c : Thread nD τ), SemLoc.dma (recvS i)) = kcell (peer i c, some (true, i)) from rfl, duties_cell]
        exact Finset.mem_singleton_self _)
    () () (amt i) rfl (amount_cell X c (some (false, i)) 0) (amount_cell X (peer i c) (some (true, i)) 0) O rfl (W := W)
    (by rw [payload_cell X c (some (false, i)) 0]
        show _ ⊢ sendPay X i c
        unfold sendPay; rw [← hfs]; exact owns_intro _ _ _ _)
    (by rw [payload_cell X (peer i c) (some (true, i)) 0]
        show _ ⊢ recvPay X i (peer i c)
        unfold recvPay; rw [peer_peer, ← hfs]
        refine (owns_intro _ _ _ _).trans (Entails.of_eq ?_)
        rw [View.read_write_univ])) $$ [Hs Hd HO Hts Htr]
  · isplitr; · iapply (records_inv X K (c, some (false, i))); iexact HR
    isplitr; · iapply (records_inv X K (peer i c, some (true, i))); iexact HR
    isplitl [Hs]; · iexact Hs
    isplitl [Hd]; · iexact Hd
    isplitl [HO]; · iexact HO
    isplitl [Hts]; · iexact Hts
    isplitr; · iapply (records_reached X K (c, some (false, i))); iexact HR
    isplitl [Htr]; · iexact Htr
    iapply (records_reached X K (peer i c, some (true, i))); iexact HR
  iintro ⟨Hc, HO⟩
  iapply Hk
  isplitl [Hc]; · iexact Hc
  iexists _; iexact HO

/-- The wait on copy `i`'s departure or arrival: what its cell hands over, and its counter at zero for good. -/
theorem wp_wait_copy (b : Bool) (i : Fin 6) (c : Dev nD) {s : DmaSem sig} (hs : SemLoc.dma s = osem (b, i))
    {sp sp' : Space} {sh sh' : Shape} {e e' : EltTy}
    {src : Memref sig .tc sp sh e} {dst : Memref sig .tc sp' sh' e'} (hamt : dst.view.dmaCredit = amt i)
    {hsrc : src.view.WordExact} {hdst : dst.view.WordExact} {Q : α → sProp 𝕄} :
    iprop(records X K ∗ cred (tallyAt (kcell (c, some (b, i))) () (amt i)) ∗ owing c 0 ∗ atPos ER (kcell (c, some (b, i))) 0 ∅ 0)
      ⊢ iprop((iprop(owing c 0 ∗ semVal (kcell (c, some (b, i))) 0 ∗ payOf X c 0 (some (b, i)))
            -∗ wp frame (wpE (defs₀ (F := F)) 𝒱₀ (c : Thread nD τ) none) Set.univ (k ⟨⟩) Q)
          -∗ wp frame (wpE (defs₀ (F := F)) 𝒱₀ (c : Thread nD τ) none) Set.univ (.op (.waitDma2 s src dst hsrc hdst) k) Q) := by
  unfold owing
  have hcell : ((c : Thread nD τ), SemLoc.dma s) = kcell (c, some (b, i)) := by rw [hs]
  iintro ⟨#HR, Hc, ⟨%W, HO⟩, Hat⟩ Hk
  iapply (Rounds.wp_wait_rest_token 𝒱₀ ER (Rd X) (c : Thread nD τ) none (κ := K (c, some (b, i)))
      (wpE_waitDma2_eq 𝒱₀ (c : Thread nD τ) none Set.univ) (Set.mem_univ _) () (O := 0) (W := W) (R := 0) (m := 0) (T := ∅)
      (by rw [hcell, expect_cell, hamt, Nat.zero_add]; exact (Nat.one_mul _).symm)) $$ [Hc HO Hat]
  · rw [hcell, hamt]
    isplitr; · iapply (records_inv X K (c, some (b, i))); iexact HR
    isplitl [Hc]; · iexact Hc
    isplitl [HO]; · iexact HO
    isplitr; · rw [MayWait_zero]; iempintro
    iexact Hat
  rw [hcell]
  iintro ⟨HO, Hat, -, Hpay⟩
  ihave Hp := (Entails.of_eq ((rest_cell X c (some (b, i))).trans (show bigSep ({0} : Finset (Fin 3)) (fun d => payOf X c d (some (b, i))) = payOf X c 0 (some (b, i)) from bigSep_singleton))) $$ Hpay
  imod (Rounds.cell_close ER (Rd X) (Set.mem_univ (K (c, some (b, i)))) (fun h => h) (R := 0 + 1) (duties_later X (kcell (c, some (b, i))))) $$ [Hat] with Hz
  · isplitr; · iapply (records_inv X K (c, some (b, i))); iexact HR
    iexact Hat
  iapply Hk
  isplitl [HO]; · iexists _; iexact HO
  isplitl [Hz] <;> iassumption

end Rules

end Cert.Exchange

end
-- ==== Proof.Contents.lean ====
/-
# What the exchange's buffers hold

The statistics buffer after its two rows are stored; the landing array for statistics as its three
parts; the kernel's result from what it has loaded.
-/
module

public import proofs.«01_k».proof.Proof.Protocol

@[expose] public section

noncomputable section

namespace Cert.Exchange

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem

variable {F : FTy → Type} [FloatOps F]

local notation "𝕄" => MT nD τ sig Unit (Elt F) ℕ UU ℕ

/-! ## Whole buffers -/

theorem zero2 : (![0, 0] : Fin 2 → ℕ) = fun _ => 0 := funext fun a => by fin_cases a <;> rfl
theorem zero3 : (![0, 0, 0] : Fin 3 → ℕ) = fun _ => 0 := funext fun a => by fin_cases a <;> rfl
theorem zero4 : (![0, 0, 0, 0] : Fin 4 → ℕ) = fun _ => 0 := funext fun a => by fin_cases a <;> rfl

/-- A buffer held whole at some contents. -/
def someW (c : Dev nD) (b : Ref sig .tc) : sProp 𝕄 :=
  iprop(∃ f : Buf (Elt F) ((c : Thread nD τ).loc b), ((c : Thread nD τ).loc b) ↦{fullShare} f)

/-! ## The statistics buffer -/

/-- Row `b` of the statistics buffer. -/
abbrev rowR (b : Fin 2) : Rect S2x2x64 :=
  Rect.unit (s := S2x2x64) ![b.val, 0, 0] S1x2x64.size (by revert b; decide)

/-- An element of row `b`, by its other coordinates. -/
theorem rowR_emb (b : Fin 2) (k : S2x2x64.Idx) (hk : (k 0).val = b.val) :
    (rowR b).emb (Fin.cons (0 : Fin 1) fun a => k a.succ) = k := by
  funext a
  refine Fin.ext ?_
  rw [Rect.emb_apply]
  refine Fin.cases ?_ (fun a => ?_) a
  · exact hk.symm
  · fin_cases a
    · show 0 + 1 * (k 1).val = (k 1).val; omega
    · show 0 + 1 * (k 2).val = (k 2).val; omega

/-- Storing a whole row puts the stored values there -/
theorem row_write_same (b : Fin 2) (f : (cc0_scratch0 : Ref sig .tc).ty.Contents (Elt F)) (w : Vec F S1x2x64 .f32)
    (k : S2x2x64.Idx) (hk : (k 0).val = b.val) :
    (((Memref.whole cc0_scratch0 : Memref sig .tc .vmem S2x2x64 .f32).access (rowR b) : View sig .tc _ _ _).write (Elt F) f w Finset.univ) k
      = w (Fin.cons (0 : Fin 1) fun a => k a.succ) := by
  conv_lhs => rw [← rowR_emb b k hk]
  exact View.write_emb_of_mem (v := ((Memref.whole cc0_scratch0 : Memref sig .tc .vmem S2x2x64 .f32).access (rowR b) : View sig .tc _ _ _)) f w (Finset.mem_univ _)

/-- and leaves the other row alone. -/
theorem row_write_other (b : Fin 2) (f : (cc0_scratch0 : Ref sig .tc).ty.Contents (Elt F)) (w : Vec F S1x2x64 .f32)
    (k : S2x2x64.Idx) (hk : (k 0).val ≠ b.val) :
    (((Memref.whole cc0_scratch0 : Memref sig .tc .vmem S2x2x64 .f32).access (rowR b) : View sig .tc _ _ _).write (Elt F) f w Finset.univ) k = f k := by
  refine View.write_of_not_mem (v := ((Memref.whole cc0_scratch0 : Memref sig .tc .vmem S2x2x64 .f32).access (rowR b) : View sig .tc _ _ _)) f w _ fun hm => hk ?_
  obtain ⟨j, -, rfl⟩ := Finset.mem_map.mp hm
  have hj : (j 0).val = 0 := Nat.lt_one_iff.mp (j 0).isLt
  show ((rowR b).emb j 0).val = _
  rw [Rect.emb_apply]
  show b.val + 1 * (j 0).val = b.val
  omega

/-- The statistics buffer after the sums alone are stored. -/
def statHalf (f : (cc0_scratch0 : Ref sig .tc).ty.Contents (Elt F)) (x : Vec F S2x64x64x64 .f32) : (cc0_scratch0 : Ref sig .tc).ty.Contents (Elt F) :=
  ((Memref.whole cc0_scratch0 : Memref sig .tc .vmem S2x2x64 .f32).access (rowR 0) : View sig .tc _ _ _).write (Elt F) f
    (k0_pay7 (k0_pay2 x)) Finset.univ

/-- After both stores the buffer holds the block's statistics, whatever it held before. -/
theorem stat_stored (f : (cc0_scratch0 : Ref sig .tc).ty.Contents (Elt F)) (x : Vec F S2x64x64x64 .f32) :
    ((Memref.whole cc0_scratch0 : Memref sig .tc .vmem S2x2x64 .f32).access (rowR 1) : View sig .tc _ _ _).write (Elt F)
        (statHalf f x) (k0_pay8 (k0_pay2 x)) Finset.univ
      = statOf x := by
  funext k
  unfold statOf statHalf
  by_cases hk : (k 0).val = 0
  · rw [if_pos hk]
    exact (row_write_other 1 _ _ k (by rw [hk]; decide)).trans (row_write_same 0 _ _ k hk)
  · rw [if_neg hk]
    have : (k 0).val < 2 := (k 0).isLt
    exact row_write_same 1 _ _ k (by show (k 0).val = 1; omega)

variable (X : Dev nD → Vec F S2x64x64x64 .f32)

/-- The statistics buffer at a device's statistics is the three shares its copies borrow. -/
theorem stat_shares (c : Dev nD) :
    (((c : Thread nD τ).loc cc0_scratch0) ↦{fullShare} statOf (X c) : sProp 𝕄)
      ⊣⊢ iprop(sendPay X 0 c ∗ sendPay X 1 c ∗ sendPay X 2 c) := by
  have h := ownsSat_thirds (Ix := Unit) (Name := ℕ) (U := UU) (Lvl := ℕ) (Val := Elt F) (c : Thread nD τ)
    (Memref.whole cc0_scratch0 : Memref sig .tc .vmem S2x2x64 .f32) (q := fullShare) (· = statOf (X c))
  have e : (((c : Thread nD τ).loc cc0_scratch0) ↦{fullShare} statOf (X c) : sProp 𝕄)
      = ownsSat (c : Thread nD τ) (Memref.whole cc0_scratch0 : Memref sig .tc .vmem S2x2x64 .f32) fullShare (· = statOf (X c)) :=
    (owns_whole (c : Thread nD τ) cc0_scratch0 fullShare (statOf (X c))).symm
  rw [e]; exact h

/-! ## The landing array for statistics -/

/-- Seen without its leading axis of one, part `j` is owned at the same values. -/
theorem owns_slot (c : Dev nD) (j : Fin 3) (q : PosShare TreeShare) (Y : Vec F S2x2x64 .f32) :
    (owns (c : Thread nD τ) (slotM j) q Y : sProp 𝕄) = owns (c : Thread nD τ) (slotB j) q (fun k => Y fun a => k a.succ) := by
  have hr (f) : ((slotM j).view.read (Elt F) f = Y) = ((slotB j).view.read (Elt F) f = fun k => Y fun a => k a.succ) := by
    have e (y : S2x2x64.Idx) : (slotM j).view.read (Elt F) f y = (slotB j).view.read (Elt F) f (Fin.cons (0 : Fin 1) y) := by
      show (slotB j).view.read (Elt F) f (Shape.reshapeEquiv _ y) = _
      exact congrArg _ (Shape.reshapeEquiv_cons_one _ y)
    refine propext ⟨fun h => funext fun k => ?_, fun h => funext fun y => ?_⟩
    · have hk : k = Fin.cons (0 : Fin 1) fun a => k a.succ :=
        funext fun a => Fin.cases (Fin.ext (Nat.lt_one_iff.mp (k 0).isLt)) (fun a => rfl) a
      exact (congrArg _ hk).trans ((e fun a => k a.succ).symm.trans (congrFun h _))
    · exact (e y).trans (congrFun h _)
  unfold owns
  simp only [hr]
  rw [show (slotM j).view.set = (slotB j).view.set from View.set_reshape _ _]

theorem slot_disjoint (j j' : Fin 3) (h : j ≠ j') : Disjoint (slotR j).set (slotR j').set := by
  rw [Finset.disjoint_left]
  intro x hx hx'
  rw [← Rect.map_emb_univ, Finset.mem_map] at hx hx'
  obtain ⟨y, -, rfl⟩ := hx
  obtain ⟨y', -, e⟩ := hx'
  have h0 := congrArg (fun z : S3x2x2x64.Idx => (z 0).val) e
  simp only [Rect.emb_apply] at h0
  have hy : (y 0).val = 0 := Nat.lt_one_iff.mp (y 0).isLt
  have hy' : (y' 0).val = 0 := Nat.lt_one_iff.mp (y' 0).isLt
  rw [hy, hy'] at h0
  exact h (Fin.ext h0.symm)

/-- An element of the landing array lies in the part its first coordinate names. -/
theorem slot_emb (k : S3x2x2x64.Idx) : (slotR (k 0)).emb (Fin.cons (0 : Fin 1) fun a => k a.succ) = k := by
  funext a
  refine Fin.ext ?_
  rw [Rect.emb_apply]
  refine Fin.cases ?_ (fun a => ?_) a
  · show (k 0).val + 1 * 0 = _; omega
  · fin_cases a
    · show 0 + 1 * (k 1).val = (k 1).val; omega
    · show 0 + 1 * (k 2).val = (k 2).val; omega
    · show 0 + 1 * (k 3).val = (k 3).val; omega

theorem slot_cover : (Finset.univ : Finset (Fin 3)).biUnion (fun j => (slotR j).set) = Finset.univ := by
  refine Finset.eq_univ_iff_forall.mpr fun k => Finset.mem_biUnion.mpr ⟨k 0, Finset.mem_univ _, ?_⟩
  rw [← Rect.map_emb_univ, Finset.mem_map]
  exact ⟨_, Finset.mem_univ _, slot_emb k⟩

/-- The landing array for statistics after the exchange: part `j` holds neighbour `j`'s. -/
def wide (c : Dev nD) : Vec F S3x2x2x64 .f32 := fun k => statOf (X (nbr (k 0) c)) fun a => k a.succ

theorem wide_slot (c : Dev nD) (j : Fin 3) (k : S1x2x2x64.Idx) :
    wide X c ((slotR j).emb k) = statOf (X (nbr j c)) fun a => k a.succ := by
  have h0 : (slotR j).emb k 0 = j := by
    refine Fin.ext ?_
    rw [Rect.emb_apply]
    have : (k 0).val = 0 := Nat.lt_one_iff.mp (k 0).isLt
    show j.val + 1 * (k 0).val = j.val
    omega
  unfold wide
  rw [h0]
  refine congrArg _ (funext fun a => Fin.ext ?_)
  rw [Rect.emb_apply]
  fin_cases a
  · show 0 + 1 * (k 1).val = (k 1).val; omega
  · show 0 + 1 * (k 2).val = (k 2).val; omega
  · show 0 + 1 * (k 3).val = (k 3).val; omega

/-- The landing array at any contents is its three parts, each somewhere to land; -/
theorem wide_split (c : Dev nD) (f : Buf (Elt F) ((c : Thread nD τ).loc cc0_scratch1)) :
    (((c : Thread nD τ).loc cc0_scratch1) ↦{fullShare} f : sProp 𝕄)
      ⊢ iprop(landing (F := F) 0 c ∗ landing (F := F) 1 c ∗ landing (F := F) 2 c) := by
  have h1 : (((c : Thread nD τ).loc cc0_scratch1) ↦{fullShare} f : sProp 𝕄)
      = owns (c : Thread nD τ) (Memref.whole cc0_scratch1 : Memref sig .tc .vmem S3x2x2x64 .f32) fullShare f :=
    (owns_whole (c : Thread nD τ) cc0_scratch1 fullShare f).symm
  have h2 (j : Fin 3) : (owns (c : Thread nD τ) (slotB j) fullShare (fun k => f ((slotR j).emb k)) : sProp 𝕄)
      ⊢ ownsSat (c : Thread nD τ) (slotM j) fullShare (fun _ => True) := by
    refine (Entails.of_eq ?_).trans (ownsSat_intro (c : Thread nD τ) (slotM j) fullShare
      (X := fun y => f ((slotR j).emb (Fin.cons (0 : Fin 1) y))) trivial)
    rw [owns_slot]
    refine congrArg _ (funext fun k => congrArg f (congrArg _ ?_))
    funext a
    refine Fin.cases ?_ (fun a => rfl) a
    exact Fin.ext (Nat.lt_one_iff.mp (k 0).isLt)
  rw [h1]
  refine (owns_rects (c : Thread nD τ) _ fullShare slotR (fun _ _ => rfl) slot_disjoint slot_cover f).trans ?_
  rw [bigSep_three]
  exact BI.sep_mono (h2 0) (BI.sep_mono (h2 1) (h2 2))

/-- the three parts at what the neighbours sent are the array at `wide`. -/
theorem wide_join (c : Dev nD) :
    iprop(recvPay X 0 c ∗ recvPay X 1 c ∗ recvPay X 2 c) ⊢ (((c : Thread nD τ).loc cc0_scratch1) ↦{fullShare} wide X c : sProp 𝕄) := by
  have h1 : (((c : Thread nD τ).loc cc0_scratch1) ↦{fullShare} wide X c : sProp 𝕄)
      = owns (c : Thread nD τ) (Memref.whole cc0_scratch1 : Memref sig .tc .vmem S3x2x2x64 .f32) fullShare (wide X c) :=
    (owns_whole (c : Thread nD τ) cc0_scratch1 fullShare _).symm
  have h2 (j : Fin 3) : (owns (c : Thread nD τ) (slotM j) fullShare (statOf (X (nbr j c))) : sProp 𝕄)
      ⊢ owns (c : Thread nD τ) (slotB j) fullShare (fun k => wide X c ((slotR j).emb k)) := by
    rw [owns_slot]
    exact Entails.of_eq (congrArg _ (funext fun k => (wide_slot X c j k).symm))
  rw [h1]
  refine BIBase.Entails.trans ?_ (owns_of_rects (c : Thread nD τ) _ fullShare slotR (fun _ _ => rfl) slot_disjoint slot_cover (wide X c))
  rw [bigSep_three]
  exact BI.sep_mono (h2 0) (BI.sep_mono (h2 1) (h2 2))

/-! ## The result -/

/-- What the kernel loads of the landing array's part `j`. -/
abbrev slotVal (j : Fin 3) (c : Dev nD) : Vec F S1x2x2x64 .f32 := fun k => wide X c ((slotR j).emb k)

/-- The block of device `c` with a border of one element, from the block and the received row, column and corner. -/
def padOf (c : Dev nD) (x : Vec F S2x64x64x64 .f32) (row col : Vec F S2x64x64 .f32) (cor : Vec F S2x64 .f32) : Vec F S2x66x66x64 .f32 :=
  k0_pay17 (pxW c) (pyW c) (k0_pay2 x) cor (k0_pay9 (pxW c) (k0_pay2 x) row) (k0_pay10 (pxW c) (k0_pay2 x) row)
    (k0_pay11 (pyW c) (k0_pay2 x) col) (k0_pay12 (pyW c) (k0_pay2 x) col)
    (k0_pay13 (pxW c) (pyW c) (k0_pay2 x) row col cor) (k0_pay14 (pxW c) (pyW c) (k0_pay2 x) row col cor)
    (Scalar.cmpi .eq (pxW c) 1#32) (k0_pay15 (pyW c) (k0_pay2 x) col) (Scalar.cmpi .eq (pyW c) 0#32) (k0_pay16 (pxW c) (k0_pay2 x) row)

/-- The kernel's result from its block, the received border, the devices' statistics and the two weights. -/
def resultOf (c : Dev nD) (x : Vec F S2x64x64x64 .f32) (row col : Vec F S2x64x64 .f32) (cor : Vec F S2x64 .f32)
    (s : Vec F S2x2x64 .f32) (s0 s1 s2 : Vec F S1x2x2x64 .f32) (kw : Vec F S3x3x64 .f32) (wp : Vec F S64x64 .f32) :
    Vec F S2x64x64x64 .f32 :=
  k0_pay1 (k0_pay2 x) (k0_pay18 kw)
    (k0_pay20 (padOf c x row col cor) (k0_pay18 kw)
      (k0_pay19 (pxW c) (pyW c) (k0_pay2 x) cor (k0_pay9 (pxW c) (k0_pay2 x) row) (k0_pay10 (pxW c) (k0_pay2 x) row)
        (k0_pay11 (pyW c) (k0_pay2 x) col) (k0_pay12 (pyW c) (k0_pay2 x) col)
        (k0_pay13 (pxW c) (pyW c) (k0_pay2 x) row col cor) (k0_pay14 (pxW c) (pyW c) (k0_pay2 x) row col cor)
        (Scalar.cmpi .eq (pxW c) 1#32) (k0_pay15 (pyW c) (k0_pay2 x) col) (Scalar.cmpi .eq (pyW c) 0#32) (k0_pay16 (pxW c) (k0_pay2 x) row) kw))
    (k0_pay21 s s0 s1 s2) wp

/-- Device `c`'s result when the devices' blocks are `X`. -/
def outOf (c : Dev nD) (kw : Vec F S3x3x64 .f32) (wp : Vec F S64x64 .f32) : Vec F S2x64x64x64 .f32 :=
  resultOf c (X c) (sent X 3 (peer 3 c)) (sent X 4 (peer 4 c)) (sent X 5 (peer 5 c)) (statOf (X c))
    (slotVal X 0 c) (slotVal X 1 c) (slotVal X 2 c) kw wp

end Cert.Exchange

end
-- ==== Proof.Body.lean ====
/-
# The kernel's body

The body of the kernel on one device, run from what the launch gives it: its block and the weights in
their staging buffers, its scratch buffers at any contents, its part of the exchange. It ends with the
result in the result's staging buffer and every semaphore of the exchange at zero.
-/
module

public import proofs.«01_k».proof.Proof.Contents

@[expose] public section

noncomputable section

namespace Cert.Exchange

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

/-- A buffer of core `c` held whole at `f`. -/
abbrev at_ (c : Dev nD) (b : Ref sig .tc) (f : Buf (Elt F) ((c : Thread nD τ).loc b)) : sProp 𝕄 :=
  ((c : Thread nD τ).loc b) ↦{fullShare} f

/-- A device's positions at its cells and the tokens of what it pays. -/
def linear (c : Dev nD) : sProp 𝕄 :=
  iprop(atPos ER (barCell c) 0 ∅ 0
    ∗ (bigSep Finset.univ fun i : Fin 6 => atPos ER (kcell (c, some (false, i))) 0 ∅ 0)
    ∗ (bigSep Finset.univ fun i : Fin 6 => atPos ER (kcell (c, some (true, i))) 0 ∅ 0)
    ∗ (bigSep Finset.univ fun j : Fin 3 => dutyTok ER (barCell (nbr j c)) 0 j)
    ∗ (bigSep Finset.univ fun i : Fin 6 => dutyTok ER (sendCell i c) 0 0)
    ∗ (bigSep Finset.univ fun i : Fin 6 => dutyTok ER (recvCell i (peer i c)) 0 0))

/-- The credits a device waits with. -/
def credits (c : Dev nD) : sProp 𝕄 :=
  iprop(cred (tallyAt (barCell c) () 3) ∗ bigSep Finset.univ fun i : Fin 6 => cred (tallyAt (kcell (c, some (true, i))) () (amt i)))

/-- A device's scratch buffers, each at some contents. -/
def scratch (c : Dev nD) : sProp 𝕄 :=
  iprop(someW (F := F) c cc0_scratch0 ∗ someW (F := F) c cc0_scratch1 ∗ someW (F := F) c cc0_scratch2 ∗ someW (F := F) c cc0_scratch3
    ∗ someW (F := F) c cc0_scratch4 ∗ someW (F := F) c cc0_scratch5 ∗ someW (F := F) c cc0_scratch6 ∗ someW (F := F) c cc0_scratch7)

/-- All its semaphores of the exchange at zero. -/
def zeros (c : Dev nD) : sProp 𝕄 :=
  iprop(semVal (barCell c) 0
    ∗ (bigSep Finset.univ fun i : Fin 6 => semVal (kcell (c, some (false, i))) 0)
    ∗ (bigSep Finset.univ fun i : Fin 6 => semVal (kcell (c, some (true, i))) 0))

/-- A whole landing buffer is somewhere to land; -/
theorem land_row (c : Dev nD) (f) : (at_ (F := F) c cc0_scratch5 f) ⊢ landing (F := F) 3 c :=
  (Entails.of_eq (owns_whole (c : Thread nD τ) cc0_scratch5 fullShare f).symm).trans (ownsSat_intro _ _ _ trivial)
theorem land_col (c : Dev nD) (f) : (at_ (F := F) c cc0_scratch6 f) ⊢ landing (F := F) 4 c :=
  (Entails.of_eq (owns_whole (c : Thread nD τ) cc0_scratch6 fullShare f).symm).trans (ownsSat_intro _ _ _ trivial)
theorem land_cor (c : Dev nD) (f) : (at_ (F := F) c cc0_scratch7 f) ⊢ landing (F := F) 5 c :=
  (Entails.of_eq (owns_whole (c : Thread nD τ) cc0_scratch7 fullShare f).symm).trans (ownsSat_intro _ _ _ trivial)

/-- A load that reads `v` continues at `v`; -/
theorem wp_load_as (c : Dev nD) {cs : CoreSpace} {s : Shape} {e : EltTy} {m : Memref sig .tc cs s e} {r : LoadRect s} {hl : m.view.LoadsAt r}
    {α : Type} {k : (r.shape.Idx → Elt F e) → Prog (TpuEff nD τ sig (Elt F) Λ₀ .tc) α} {Q : α → sProp 𝕄}
    (f : Buf (Elt F) (m.view.loc (c : Thread nD τ))) (v : r.shape.Idx → Elt F e) (hv : m.view.readAt (Elt F) r f = v) :
    (m.view.loc (c : Thread nD τ) ↦{fullShare} f : sProp 𝕄)
      ⊢ iprop(((m.view.loc (c : Thread nD τ) ↦{fullShare} f) -∗ wp frame (wpE (defs₀ (F := F)) 𝒱₀ (c : Thread nD τ) none) Set.univ (k v) Q)
        -∗ wp frame (wpE (defs₀ (F := F)) 𝒱₀ (c : Thread nD τ) none) Set.univ (.op (.load m r hl) k) Q) := by
  subst hv
  exact wp_load 𝒱₀ (c : Thread nD τ) none Set.univ (Finset.subset_univ _)

/-- and a store that leaves `g` leaves `g`. -/
theorem wp_store_as (c : Dev nD) {cs : CoreSpace} {s : Shape} {e : EltTy} {m : Memref sig .tc cs s e} {r : Rect s} {w : r.shape.Idx → Elt F e}
    {hx : (m.access r).Stores Finset.univ} {hm : (Finset.univ : Finset r.shape.Idx) = Finset.univ ∨ ∀ a, r.stride a = 1}
    {α : Type} {k : PUnit → Prog (TpuEff nD τ sig (Elt F) Λ₀ .tc) α} {Q : α → sProp 𝕄}
    (f g : Buf (Elt F) (m.view.loc (c : Thread nD τ))) (hg : (m.access r).write (Elt F) f w Finset.univ = g) :
    (m.view.loc (c : Thread nD τ) ↦{fullShare} f : sProp 𝕄)
      ⊢ iprop(((m.view.loc (c : Thread nD τ) ↦{fullShare} g) -∗ wp frame (wpE (defs₀ (F := F)) 𝒱₀ (c : Thread nD τ) none) Set.univ (k ⟨⟩) Q)
        -∗ wp frame (wpE (defs₀ (F := F)) 𝒱₀ (c : Thread nD τ) none) Set.univ (.op (.store m r w Finset.univ hx hm) k) Q) := by
  subst hg
  exact wp_store 𝒱₀ (c : Thread nD τ) none Set.univ (m := m) (r := r) (Mk := Finset.univ) (S := Finset.univ) (f := f) (Finset.subset_univ _)

section

variable (X : Dev nD → Vec F S2x64x64x64 .f32) (K : Dev nD × Option (Bool × Fin 6) → ℕ) (c : Dev nD)

/-- a whole source at what its copy carries is what the copy takes, -/
theorem sendPay_row : (sendPay X 3 c : sProp 𝕄) = at_ c cc0_scratch2 (sent X 3 c) := owns_whole (c : Thread nD τ) cc0_scratch2 fullShare _
theorem sendPay_col : (sendPay X 4 c : sProp 𝕄) = at_ c cc0_scratch3 (sent X 4 c) := owns_whole (c : Thread nD τ) cc0_scratch3 fullShare _
theorem sendPay_cor : (sendPay X 5 c : sProp 𝕄) = at_ c cc0_scratch4 (sent X 5 c) := owns_whole (c : Thread nD τ) cc0_scratch4 fullShare _
/-- and what arrives whole is the buffer at it. -/
theorem recvPay_row : (recvPay X 3 c : sProp 𝕄) = at_ c cc0_scratch5 (sent X 3 (peer 3 c)) := owns_whole (c : Thread nD τ) cc0_scratch5 fullShare _
theorem recvPay_col : (recvPay X 4 c : sProp 𝕄) = at_ c cc0_scratch6 (sent X 4 (peer 4 c)) := owns_whole (c : Thread nD τ) cc0_scratch6 fullShare _
theorem recvPay_cor : (recvPay X 5 c : sProp 𝕄) = at_ c cc0_scratch7 (sent X 5 (peer 5 c)) := owns_whole (c : Thread nD τ) cc0_scratch7 fullShare _

/-- What the body starts from, -/
def bodyPre (kw : Vec F S3x3x64 .f32) (wq : Vec F S64x64 .f32) (g : Vec F S2x64x64x64 .f32) : sProp 𝕄 :=
  iprop(records X K ∗ linear (F := F) c ∗ credits (F := F) c ∗ levAts L lv ∗ scratch (F := F) c ∗ owing c (O₀ c)
    ∗ at_ c cc0_stg0_0 (X c) ∗ at_ c cc0_stg1_0 kw ∗ at_ c cc0_stg2_0 wq ∗ at_ c cc0_stg3_0 g)

/-- and what it ends with. -/
def bodyPost (kw : Vec F S3x3x64 .f32) (wq : Vec F S64x64 .f32) : sProp 𝕄 :=
  iprop(scratch (F := F) c ∗ zeros (F := F) c ∗ owing c 0
    ∗ at_ c cc0_stg0_0 (X c) ∗ at_ c cc0_stg1_0 kw ∗ at_ c cc0_stg2_0 wq ∗ at_ c cc0_stg3_0 (outOf X c kw wq))

set_option maxHeartbeats 1000000 in
/-- The body, one rule per effect in program order. -/
theorem body_run (kw : Vec F S3x3x64 .f32) (wq : Vec F S64x64 .f32) (g : Vec F S2x64x64x64 .f32) (Kt : PUnit → sProp 𝕄) :
    iprop(bodyPre X K c kw wq g ∗ (bodyPost X c kw wq -∗ Kt ⟨⟩))
      ⊢ wp frame (wpE (defs₀ (F := F)) 𝒱₀ (c : Thread nD τ) none) Set.univ
          (cc0_body (Memref.whole cc0_stg0_0) (Memref.isWhole_whole _) (Memref.whole cc0_stg1_0) (Memref.isWhole_whole _)
            (Memref.whole cc0_stg2_0) (Memref.isWhole_whole _) (Memref.whole cc0_stg3_0) (Memref.isWhole_whole _)
            (Memref.whole cc0_scratch0) (Memref.isWhole_whole _) (Memref.whole cc0_scratch1) (Memref.isWhole_whole _)
            (Memref.whole cc0_scratch2) (Memref.isWhole_whole _) (Memref.whole cc0_scratch3) (Memref.isWhole_whole _)
            (Memref.whole cc0_scratch4) (Memref.isWhole_whole _) (Memref.whole cc0_scratch5) (Memref.isWhole_whole _)
            (Memref.whole cc0_scratch6) (Memref.isWhole_whole _) (Memref.whole cc0_scratch7) (Memref.isWhole_whole _)
            cc0_scratch8 cc0_scratch9) Kt := by
  simp only [cc0_body_eq_skeleton]; unfold cc0_body_skel
  rw [k0_part1_eq_skeleton]; unfold k0_part1_skel
  simp only [semSignalWord, semWaitWord, Prog.lift, Prog.bind_op, Prog.bind_ret, Prog.pure_eq_ret, wp_deviceId]
  unfold bodyPre linear credits scratch someW
  simp only [bigSep_six, bigSep_three]
  iintro ⟨⟨#HR, ⟨HaB, ⟨HaS0, HaS1, HaS2, HaS3, HaS4, HaS5⟩, ⟨HaV0, HaV1, HaV2, HaV3, HaV4, HaV5⟩, ⟨HtB0, HtB1, HtB2⟩,
      ⟨HtS0, HtS1, HtS2, HtS3, HtS4, HtS5⟩, ⟨HtV0, HtV1, HtV2, HtV3, HtV4, HtV5⟩⟩,
    ⟨HcB, HcV0, HcV1, HcV2, HcV3, HcV4, HcV5⟩, #Hlev,
    ⟨⟨%f0, Hst⟩, ⟨%f1, Hwide⟩, ⟨%f2, Hrow⟩, ⟨%f3, Hcol⟩, ⟨%f4, Hcor⟩, ⟨%f5, Hrowv⟩, ⟨%f6, Hcolv⟩, ⟨%f7, Hcorv⟩⟩,
    HO, Hx, Hkw, Hwp, Hout⟩, Hk⟩
  ihave Hw := (wide_split (F := F) c f1) $$ Hwide
  icases Hw with ⟨Hl0, Hl1, Hl2⟩
  ihave Hl3 := (land_row c f5) $$ Hrowv
  ihave Hl4 := (land_col c f6) $$ Hcolv
  ihave Hl5 := (land_cor c f7) $$ Hcorv
  -- the three signals
  iapply (wp_signal_nbr X K 0 c _ (dev1_nbr c) (a := 0) (b := 3) rfl rfl (dueB c 2) rfl) $$ [HO HtB0 Hl0 Hl3]
  · isplitr; · iexact HR
    isplitl [HO]; · iexact HO
    isplitl [HtB0]; · iexact HtB0
    isplitl [Hl0] <;> iassumption
  iintro HO
  iapply (wp_signal_nbr X K 1 c _ (dev2_nbr c) (a := 1) (b := 4) rfl rfl (dueB c 1) rfl) $$ [HO HtB1 Hl1 Hl4]
  · isplitr; · iexact HR
    isplitl [HO]; · iexact HO
    isplitl [HtB1]; · iexact HtB1
    isplitl [Hl1] <;> iassumption
  iintro HO
  iapply (wp_signal_nbr X K 2 c _ (dev3_nbr c) (a := 2) (b := 5) rfl rfl (dueX c 6) rfl) $$ [HO HtB2 Hl2 Hl5]
  · isplitr; · iexact HR
    isplitl [HO]; · iexact HO
    isplitl [HtB2]; · iexact HtB2
    isplitl [Hl2] <;> iassumption
  iintro HO
  iapply (wp_load_as c (m := Memref.whole cc0_stg0_0) (X c) _ (Memref.readAt_unit_zero (Elt F) cc0_stg0_0 zero4 _ (X c))) $$ Hx; iintro Hx
  rw [k0_part2_eq_skeleton]; unfold k0_part2_skel
  simp only [semWaitWord, Prog.lift, Prog.bind_op, Prog.bind_ret, Prog.pure_eq_ret]
  iapply (wp_load_as c (m := Memref.whole cc0_scratch2) f2 _ (Memref.readAt_unit_zero (Elt F) cc0_scratch2 zero3 _ f2)) $$ Hrow; iintro Hrow
  iapply (wp_store_as c (m := Memref.whole cc0_scratch2) f2 (sent X 3 c) (Memref.write_access_unit_zero_univ (Elt F) cc0_scratch2 zero3 _ f2 _)) $$ Hrow; iintro Hrow
  iapply (wp_load_as c (m := Memref.whole cc0_scratch3) f3 _ (Memref.readAt_unit_zero (Elt F) cc0_scratch3 zero3 _ f3)) $$ Hcol; iintro Hcol
  iapply (wp_store_as c (m := Memref.whole cc0_scratch3) f3 (sent X 4 c) (Memref.write_access_unit_zero_univ (Elt F) cc0_scratch3 zero3 _ f3 _)) $$ Hcol; iintro Hcol
  iapply (wp_load_as c (m := Memref.whole cc0_scratch4) f4 _ (Memref.readAt_unit_zero (Elt F) cc0_scratch4 zero2 _ f4)) $$ Hcor; iintro Hcor
  iapply (wp_store_as c (m := Memref.whole cc0_scratch4) f4 (sent X 5 c) (Memref.write_access_unit_zero_univ (Elt F) cc0_scratch4 zero2 _ f4 _)) $$ Hcor; iintro Hcor
  iapply (wp_load_as c (m := Memref.whole cc0_scratch0) f0 _ rfl) $$ Hst; iintro Hst
  iapply (wp_store_as c (m := Memref.whole cc0_scratch0) f0 (statHalf f0 (X c)) rfl) $$ Hst; iintro Hst
  iapply (wp_load_as c (m := Memref.whole cc0_scratch0) _ _ rfl) $$ Hst; iintro Hst
  iapply (wp_store_as c (m := Memref.whole cc0_scratch0) _ (statOf (X c)) (stat_stored f0 (X c))) $$ Hst; iintro Hst
  -- the wait for the three neighbours
  iapply (wp_wait_bar X K c 6) $$ [HcB HO HaB]
  · isplitr; · iexact HR
    isplitr; · iexact Hlev
    isplitl [HcB]; · iexact HcB
    isplitl [HO] <;> iassumption
  iintro ⟨HO, HzB, ⟨Hp0, Hp3⟩, ⟨Hp1, Hp4⟩, ⟨Hp2, Hp5⟩⟩
  ihave Hs := (stat_shares X c).1 $$ Hst
  icases Hs with ⟨Hs0, Hs1, Hs2⟩
  ihave Hs3 := (Entails.of_eq (sendPay_row X c).symm) $$ Hrow
  ihave Hs4 := (Entails.of_eq (sendPay_col X c).symm) $$ Hcol
  ihave Hs5 := (Entails.of_eq (sendPay_cor X c).symm) $$ Hcor
  -- the six copies
  rw [k0_part3_eq_skeleton]; unfold k0_part3_skel
  simp only [semWaitWord, Prog.lift, Prog.bind_op, Prog.bind_ret, Prog.pure_eq_ret]
  iapply (wp_copy X K 0 c _ (dev4_nbr c) (dueX c 5) rfl) $$ [Hs0 Hp0 HO HtS0 HtV0]
  · isplitr; · iexact HR
    isplitl [Hs0]; · iexact Hs0
    isplitl [Hp0]; · iexact Hp0
    isplitl [HO]; · iexact HO
    isplitl [HtS0] <;> iassumption
  iintro ⟨HcS0, HO⟩
  iapply (wp_copy X K 1 c _ (dev5_nbr c) (dueX c 4) rfl) $$ [Hs1 Hp1 HO HtS1 HtV1]
  · isplitr; · iexact HR
    isplitl [Hs1]; · iexact Hs1
    isplitl [Hp1]; · iexact Hp1
    isplitl [HO]; · iexact HO
    isplitl [HtS1] <;> iassumption
  iintro ⟨HcS1, HO⟩
  iapply (wp_copy X K 2 c _ (dev6_nbr c) (dueX c 3) rfl) $$ [Hs2 Hp2 HO HtS2 HtV2]
  · isplitr; · iexact HR
    isplitl [Hs2]; · iexact Hs2
    isplitl [Hp2]; · iexact Hp2
    isplitl [HO]; · iexact HO
    isplitl [HtS2] <;> iassumption
  iintro ⟨HcS2, HO⟩
  rw [k0_part4_eq_skeleton]; unfold k0_part4_skel
  simp only [semWaitWord, Prog.lift, Prog.bind_op, Prog.bind_ret, Prog.pure_eq_ret]
  iapply (wp_copy X K 3 c _ (dev7_nbr c) (dueX c 2) rfl) $$ [Hs3 Hp3 HO HtS3 HtV3]
  · isplitr; · iexact HR
    isplitl [Hs3]; · iexact Hs3
    isplitl [Hp3]; · iexact Hp3
    isplitl [HO]; · iexact HO
    isplitl [HtS3] <;> iassumption
  iintro ⟨HcS3, HO⟩
  iapply (wp_copy X K 4 c _ (dev8_nbr c) (dueX c 1) rfl) $$ [Hs4 Hp4 HO HtS4 HtV4]
  · isplitr; · iexact HR
    isplitl [Hs4]; · iexact Hs4
    isplitl [Hp4]; · iexact Hp4
    isplitl [HO]; · iexact HO
    isplitl [HtS4] <;> iassumption
  iintro ⟨HcS4, HO⟩
  iapply (wp_copy X K 5 c _ (dev9_nbr c) (dueX c 0) rfl) $$ [Hs5 Hp5 HO HtS5 HtV5]
  · isplitr; · iexact HR
    isplitl [Hs5]; · iexact Hs5
    isplitl [Hp5]; · iexact Hp5
    isplitl [HO]; · iexact HO
    isplitl [HtS5] <;> iassumption
  iintro ⟨HcS5, HO⟩
  ihave HO := (Entails.of_eq (show (owing c (dueX c 0) : sProp 𝕄) = owing c 0 from rfl)) $$ HO
  -- the waits, each copy's own and the neighbour's
  iapply (wp_wait_copy X K false 0 c (dst := srcM 0) rfl (amt_src 0)) $$ [HcS0 HO HaS0]
  · isplitr; · iexact HR
    isplitl [HcS0]; · iexact HcS0
    isplitl [HO] <;> iassumption
  iintro ⟨HO, HzS0, Hs0⟩
  rw [k0_part5_eq_skeleton]; unfold k0_part5_skel
  simp only [semWaitWord, Prog.lift, Prog.bind_op, Prog.bind_ret, Prog.pure_eq_ret]
  iapply (wp_wait_copy X K true 0 c (dst := dstM 0) rfl rfl) $$ [HcV0 HO HaV0]
  · isplitr; · iexact HR
    isplitl [HcV0]; · iexact HcV0
    isplitl [HO] <;> iassumption
  iintro ⟨HO, HzV0, Hr0⟩
  iapply (wp_wait_copy X K false 1 c (dst := srcM 1) rfl (amt_src 1)) $$ [HcS1 HO HaS1]
  · isplitr; · iexact HR
    isplitl [HcS1]; · iexact HcS1
    isplitl [HO] <;> iassumption
  iintro ⟨HO, HzS1, Hs1⟩
  iapply (wp_wait_copy X K true 1 c (dst := dstM 1) rfl rfl) $$ [HcV1 HO HaV1]
  · isplitr; · iexact HR
    isplitl [HcV1]; · iexact HcV1
    isplitl [HO] <;> iassumption
  iintro ⟨HO, HzV1, Hr1⟩
  iapply (wp_wait_copy X K false 2 c (dst := srcM 2) rfl (amt_src 2)) $$ [HcS2 HO HaS2]
  · isplitr; · iexact HR
    isplitl [HcS2]; · iexact HcS2
    isplitl [HO] <;> iassumption
  iintro ⟨HO, HzS2, Hs2⟩
  rw [k0_part6_eq_skeleton]; unfold k0_part6_skel
  simp only [semWaitWord, Prog.lift, Prog.bind_op, Prog.bind_ret, Prog.pure_eq_ret]
  iapply (wp_wait_copy X K true 2 c (dst := dstM 2) rfl rfl) $$ [HcV2 HO HaV2]
  · isplitr; · iexact HR
    isplitl [HcV2]; · iexact HcV2
    isplitl [HO] <;> iassumption
  iintro ⟨HO, HzV2, Hr2⟩
  iapply (wp_wait_copy X K false 3 c (dst := srcM 3) rfl (amt_src 3)) $$ [HcS3 HO HaS3]
  · isplitr; · iexact HR
    isplitl [HcS3]; · iexact HcS3
    isplitl [HO] <;> iassumption
  iintro ⟨HO, HzS3, Hs3⟩
  iapply (wp_wait_copy X K true 3 c (dst := dstM 3) rfl rfl) $$ [HcV3 HO HaV3]
  · isplitr; · iexact HR
    isplitl [HcV3]; · iexact HcV3
    isplitl [HO] <;> iassumption
  iintro ⟨HO, HzV3, Hr3⟩
  iapply (wp_wait_copy X K false 4 c (dst := srcM 4) rfl (amt_src 4)) $$ [HcS4 HO HaS4]
  · isplitr; · iexact HR
    isplitl [HcS4]; · iexact HcS4
    isplitl [HO] <;> iassumption
  iintro ⟨HO, HzS4, Hs4⟩
  iapply (wp_wait_copy X K true 4 c (dst := dstM 4) rfl rfl) $$ [HcV4 HO HaV4]
  · isplitr; · iexact HR
    isplitl [HcV4]; · iexact HcV4
    isplitl [HO] <;> iassumption
  iintro ⟨HO, HzV4, Hr4⟩
  iapply (wp_wait_copy X K false 5 c (dst := srcM 5) rfl (amt_src 5)) $$ [HcS5 HO HaS5]
  · isplitr; · iexact HR
    isplitl [HcS5]; · iexact HcS5
    isplitl [HO] <;> iassumption
  iintro ⟨HO, HzS5, Hs5⟩
  rw [k0_part7_eq_skeleton]; unfold k0_part7_skel
  simp only [semWaitWord, Prog.lift, Prog.bind_op, Prog.bind_ret, Prog.pure_eq_ret]
  iapply (wp_wait_copy X K true 5 c (dst := dstM 5) rfl rfl) $$ [HcV5 HO HaV5]
  · isplitr; · iexact HR
    isplitl [HcV5]; · iexact HcV5
    isplitl [HO] <;> iassumption
  iintro ⟨HO, HzV5, Hr5⟩
  ihave Hs0 := (Entails.of_eq (show (payOf X c 0 (some (false, 0)) : sProp 𝕄) = sendPay X 0 c from rfl)) $$ Hs0
  ihave Hs1 := (Entails.of_eq (show (payOf X c 0 (some (false, 1)) : sProp 𝕄) = sendPay X 1 c from rfl)) $$ Hs1
  ihave Hs2 := (Entails.of_eq (show (payOf X c 0 (some (false, 2)) : sProp 𝕄) = sendPay X 2 c from rfl)) $$ Hs2
  ihave Hst := (stat_shares X c).2 $$ [Hs0 Hs1 Hs2]
  · isplitl [Hs0]; · iexact Hs0
    isplitl [Hs1] <;> iassumption
  ihave Hr0 := (Entails.of_eq (show (payOf X c 0 (some (true, 0)) : sProp 𝕄) = recvPay X 0 c from rfl)) $$ Hr0
  ihave Hr1 := (Entails.of_eq (show (payOf X c 0 (some (true, 1)) : sProp 𝕄) = recvPay X 1 c from rfl)) $$ Hr1
  ihave Hr2 := (Entails.of_eq (show (payOf X c 0 (some (true, 2)) : sProp 𝕄) = recvPay X 2 c from rfl)) $$ Hr2
  ihave Hwide := (wide_join X c) $$ [Hr0 Hr1 Hr2]
  · isplitl [Hr0]; · iexact Hr0
    isplitl [Hr1] <;> iassumption
  ihave Hrow := (Entails.of_eq (show (payOf X c 0 (some (false, 3)) : sProp 𝕄) = at_ c cc0_scratch2 (sent X 3 c) from sendPay_row X c)) $$ Hs3
  ihave Hcol := (Entails.of_eq (show (payOf X c 0 (some (false, 4)) : sProp 𝕄) = at_ c cc0_scratch3 (sent X 4 c) from sendPay_col X c)) $$ Hs4
  ihave Hcor := (Entails.of_eq (show (payOf X c 0 (some (false, 5)) : sProp 𝕄) = at_ c cc0_scratch4 (sent X 5 c) from sendPay_cor X c)) $$ Hs5
  ihave Hrowv := (Entails.of_eq (show (payOf X c 0 (some (true, 3)) : sProp 𝕄) = at_ c cc0_scratch5 (sent X 3 (peer 3 c)) from recvPay_row X c)) $$ Hr3
  ihave Hcolv := (Entails.of_eq (show (payOf X c 0 (some (true, 4)) : sProp 𝕄) = at_ c cc0_scratch6 (sent X 4 (peer 4 c)) from recvPay_col X c)) $$ Hr4
  ihave Hcorv := (Entails.of_eq (show (payOf X c 0 (some (true, 5)) : sProp 𝕄) = at_ c cc0_scratch7 (sent X 5 (peer 5 c)) from recvPay_cor X c)) $$ Hr5
  -- what arrived, the weights and the totals are read, and the result is stored
  iapply (wp_load_as c (m := Memref.whole cc0_scratch5) (sent X 3 (peer 3 c)) _ (Memref.readAt_unit_zero (Elt F) cc0_scratch5 zero3 _ (sent X 3 (peer 3 c)))) $$ Hrowv; iintro Hrowv
  iapply (wp_load_as c (m := Memref.whole cc0_scratch6) (sent X 4 (peer 4 c)) _ (Memref.readAt_unit_zero (Elt F) cc0_scratch6 zero3 _ (sent X 4 (peer 4 c)))) $$ Hcolv; iintro Hcolv
  iapply (wp_load_as c (m := Memref.whole cc0_scratch7) (sent X 5 (peer 5 c)) _ (Memref.readAt_unit_zero (Elt F) cc0_scratch7 zero2 _ (sent X 5 (peer 5 c)))) $$ Hcorv; iintro Hcorv
  rw [k0_part8_eq_skeleton]; unfold k0_part8_skel
  simp only [semWaitWord, Prog.lift, Prog.bind_op, Prog.bind_ret, Prog.pure_eq_ret]
  iapply (wp_load_as c (m := Memref.whole cc0_stg1_0) kw _ (Memref.readAt_unit_zero (Elt F) cc0_stg1_0 zero3 _ kw)) $$ Hkw; iintro Hkw
  rw [k0_part9_eq_skeleton]; unfold k0_part9_skel
  simp only [semWaitWord, Prog.lift, Prog.bind_op, Prog.bind_ret, Prog.pure_eq_ret]
  iapply (wp_load_as c (m := Memref.whole cc0_scratch0) (statOf (X c)) _ (Memref.readAt_unit_zero (Elt F) cc0_scratch0 zero3 _ (statOf (X c)))) $$ Hst; iintro Hst
  iapply (wp_load_as c (m := Memref.whole cc0_scratch1) (wide X c) (slotVal X 0 c) rfl) $$ Hwide; iintro Hwide
  iapply (wp_load_as c (m := Memref.whole cc0_scratch1) (wide X c) (slotVal X 1 c) rfl) $$ Hwide; iintro Hwide
  iapply (wp_load_as c (m := Memref.whole cc0_scratch1) (wide X c) (slotVal X 2 c) rfl) $$ Hwide; iintro Hwide
  iapply (wp_load_as c (m := Memref.whole cc0_stg2_0) wq _ (Memref.readAt_unit_zero (Elt F) cc0_stg2_0 zero2 _ wq)) $$ Hwp; iintro Hwp
  iapply (wp_load_as c (m := Memref.whole cc0_stg3_0) g _ (Memref.readAt_unit_zero (Elt F) cc0_stg3_0 zero4 _ g)) $$ Hout; iintro Hout
  iapply (wp_store_as c (m := Memref.whole cc0_stg3_0) g (outOf X c kw wq) (Memref.write_access_unit_zero_univ (Elt F) cc0_stg3_0 zero4 _ g _)) $$ Hout; iintro Hout
  rw [wp_ret]; imodintro
  iapply Hk
  unfold bodyPost scratch zeros someW
  simp only [bigSep_six]
  isplitl [Hst Hwide Hrow Hcol Hcor Hrowv Hcolv Hcorv]
  · isplitl [Hst]; · iexists _; iexact Hst
    isplitl [Hwide]; · iexists _; iexact Hwide
    isplitl [Hrow]; · iexists _; iexact Hrow
    isplitl [Hcol]; · iexists _; iexact Hcol
    isplitl [Hcor]; · iexists _; iexact Hcor
    isplitl [Hrowv]; · iexists _; iexact Hrowv
    isplitl [Hcolv]; · iexists _; iexact Hcolv
    iexists _; iexact Hcorv
  isplitl [HzB HzS0 HzS1 HzS2 HzS3 HzS4 HzS5 HzV0 HzV1 HzV2 HzV3 HzV4 HzV5]
  · isplitl [HzB]; · iexact HzB
    isplitl [HzS0 HzS1 HzS2 HzS3 HzS4 HzS5]
    · isplitl [HzS0]; · iexact HzS0
      isplitl [HzS1]; · iexact HzS1
      isplitl [HzS2]; · iexact HzS2
      isplitl [HzS3]; · iexact HzS3
      isplitl [HzS4] <;> iassumption
    · isplitl [HzV0]; · iexact HzV0
      isplitl [HzV1]; · iexact HzV1
      isplitl [HzV2]; · iexact HzV2
      isplitl [HzV3]; · iexact HzV3
      isplitl [HzV4] <;> iassumption
  isplitl [HO]; · iexact HO
  isplitl [Hx]; · iexact Hx
  isplitl [Hkw]; · iexact Hkw
  isplitl [Hwp] <;> iassumption

end

end Cert.Exchange

end
-- ==== Proof.Tokens.lean ====
/-
# Handing out the exchange

The counters of the exchange become its cells, whose tokens and positions go to the devices that use
them: a device pays its own departures, the arrivals at the neighbours its copies go to, and one unit at
each neighbour's barrier. Crossing to a neighbour and back is the identity, so dealing the tokens along
the crossing deals each to the device that pays it.
-/
module

public import proofs.«01_k».proof.Proof.Body

@[expose] public section

noncomputable section

namespace Cert.Exchange

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

/-- The cells of one device: its barrier, its departures and its arrivals. -/
abbrev CellIx : Type := Option (Bool × Fin 6)

/-- A family over departures and arrivals is one over each. -/
theorem bigSep_ways (Φ : Bool × Fin 6 → sProp 𝕄) :
    bigSep Finset.univ Φ = iprop((bigSep Finset.univ fun i => Φ (false, i)) ∗ (bigSep Finset.univ fun i => Φ (true, i))) := by
  rw [bigSep_univ_prod]
  exact bigSep_univ_eq_bigSepL [false, true] (by decide) (by decide) _

/-- A family over a device's cells is its barrier's, its departures' and its arrivals'. -/
theorem bigSep_cells (Φ : CellIx → sProp 𝕄) :
    bigSep Finset.univ Φ = iprop(Φ none ∗ (bigSep Finset.univ fun i => Φ (some (false, i))) ∗ (bigSep Finset.univ fun i => Φ (some (true, i)))) := by
  rw [bigSep_univ_equiv (Equiv.optionEquivSumPUnit.{0} (Bool × Fin 6)).symm Φ, BI.bigSep_univ_sum,
    ← bigSep_ways (fun k => Φ (some k))]
  have h : (bigSep Finset.univ fun b : PUnit.{1} => Φ ((Equiv.optionEquivSumPUnit.{0} (Bool × Fin 6)).symm (.inr b))) = Φ none :=
    BI.bigSep_univ_of_subsingleton PUnit.unit
  rw [h]
  exact equiv_iff.mp ⟨BI.sep_comm, BI.sep_comm⟩

def allCells : Finset (GSem nD τ sig) := Finset.univ.map ⟨kcell, kcell_injective⟩

/-- The tokens of a device's cells: three of its barrier, one of each departure and of each arrival. -/
def tokOf : Dev nD × (Fin 3 ⊕ (Bool × Fin 6)) → GSem nD τ sig × ℕ × Fin 3
  | (c, .inl j) => (kcell (c, none), 0, j)
  | (c, .inr k) => (kcell (c, some k), 0, 0)

theorem tokOf_injective : Function.Injective tokOf := by
  rintro ⟨c, j | k⟩ ⟨c', j' | k'⟩ h
  · have h1 := kcell_injective (congrArg Prod.fst h)
    have h2 : j = j' := congrArg (fun x : GSem nD τ sig × ℕ × Fin 3 => x.2.2) h
    rw [h2, show c = c' from congrArg Prod.fst h1]
  · exact absurd (congrArg Prod.snd (kcell_injective (congrArg Prod.fst h))) (fun e => by cases e)
  · exact absurd (congrArg Prod.snd (kcell_injective (congrArg Prod.fst h))) (fun e => by cases e)
  · have h1 := kcell_injective (congrArg Prod.fst h)
    rw [show c = c' from congrArg Prod.fst h1, show k = k' from Option.some.inj (congrArg Prod.snd h1)]

def allToks : Finset (GSem nD τ sig × ℕ × Fin 3) := Finset.univ.map ⟨tokOf, tokOf_injective⟩

/-- The tokens of device `c`'s own cells. -/
def toks (c : Dev nD) : sProp 𝕄 :=
  iprop((bigSep Finset.univ fun j : Fin 3 => dutyTok ER (barCell c) 0 j)
    ∗ (bigSep Finset.univ fun i : Fin 6 => dutyTok ER (sendCell i c) 0 0)
    ∗ (bigSep Finset.univ fun i : Fin 6 => dutyTok ER (recvCell i c) 0 0))

/-- The tokens of the duties device `c` pays. -/
def payToks (c : Dev nD) : sProp 𝕄 :=
  iprop((bigSep Finset.univ fun j : Fin 3 => dutyTok ER (barCell (nbr j c)) 0 j)
    ∗ (bigSep Finset.univ fun i : Fin 6 => dutyTok ER (sendCell i c) 0 0)
    ∗ (bigSep Finset.univ fun i : Fin 6 => dutyTok ER (recvCell i (peer i c)) 0 0))

/-- Dealt along the crossings, the devices' own tokens are the ones they pay with. -/
theorem toks_across : (bigSep Finset.univ fun c : Dev nD => (toks c : sProp 𝕄)) ⊢ bigSep Finset.univ fun c : Dev nD => payToks c := by
  refine Entails.of_eq ?_
  unfold toks payToks
  simp only [bigSep_sep']
  rw [bigSep_univ_comm (fun (c : Dev nD) (j : Fin 3) => (dutyTok ER (barCell c) 0 j : sProp 𝕄)),
    bigSep_univ_comm (fun (c : Dev nD) (j : Fin 3) => (dutyTok ER (barCell (nbr j c)) 0 j : sProp 𝕄)),
    bigSep_univ_comm (fun (c : Dev nD) (i : Fin 6) => (dutyTok ER (recvCell i c) 0 0 : sProp 𝕄)),
    bigSep_univ_comm (fun (c : Dev nD) (i : Fin 6) => (dutyTok ER (recvCell i (peer i c)) 0 0 : sProp 𝕄)),
    BI.bigSep_congr (s := Finset.univ) fun (j : Fin 3) _ => bigSep_univ_equiv (cross j) (fun c : Dev nD => (dutyTok ER (barCell c) 0 j : sProp 𝕄)),
    BI.bigSep_congr (s := Finset.univ) fun (i : Fin 6) _ => bigSep_univ_equiv (cross (dir i)) (fun c : Dev nD => (dutyTok ER (recvCell i c) 0 0 : sProp 𝕄))]
  rfl

section Cells

variable (X : Dev nD → Vec F S2x64x64x64 .f32)

/-- What the launch deals device `c`. -/
def dealt (c : Dev nD) : sProp 𝕄 :=
  iprop((bigSep Finset.univ fun k : CellIx => roundState ER (Rd X) (kcell (c, k)) 0)
    ∗ (bigSep Finset.univ fun k : CellIx => iprop(atPos ER (kcell (c, k)) 0 ∅ 0 ∗ reached ER (kcell (c, k)) 0)) ∗ toks c)

/-- What it has once the cells are open. -/
def opened (c : Dev nD) : sProp 𝕄 := iprop(∃ K, records X K ∗ linear c)

theorem fund_all : BI.own (ER (initOf allCells allToks)) ⊢ (|==> bigSep Finset.univ (dealt X) : sProp 𝕄) := by
  have hC (Φ : GSem nD τ sig → sProp 𝕄) : bigSep allCells Φ = bigSep Finset.univ fun c : Dev nD => bigSep Finset.univ fun k : CellIx => Φ (kcell (c, k)) := by
    unfold allCells; rw [bigSep_map, bigSep_univ_prod]; rfl
  have hT : bigSep allToks (fun x => (dutyTok ER x.1 x.2.1 x.2.2 : sProp 𝕄)) = bigSep Finset.univ fun c : Dev nD => toks c := by
    unfold allToks; rw [bigSep_map, bigSep_univ_prod]
    refine bigSep_congr fun c _ => ?_
    rw [BI.bigSep_univ_sum, bigSep_ways]
    rfl
  iintro HX
  imod (Rounds.fund ER (Rd X) allCells allToks) $$ HX with ⟨Hst, Hr, Hat, Htok⟩
  imodintro
  ihave Hst' := (Entails.of_eq (hC fun g => roundState ER (Rd X) g 0)) $$ Hst
  ihave Hat' := (Entails.of_eq (hC fun g => atPos ER g 0 ∅ 0)) $$ Hat
  ihave Hr' := (Entails.of_eq (hC fun g => reached ER g 0)) $$ Hr
  ihave Htok' := (Entails.of_eq hT) $$ Htok
  unfold dealt; simp only [bigSep_sep']
  isplitl [Hst']; · iexact Hst'
  isplitl [Hat' Hr']
  · isplitl [Hat'] <;> iassumption
  iexact Htok'

/-- The kernel's own semaphores are the departures' and the arrivals'; -/
theorem ownSems0_eq (c : Dev nD) : (Pipeline.ownSems0 (Ix := Unit) (Name := ℕ) (U := UU) (Lvl := ℕ) (Val := Elt F) (τ := τ) osem c : sProp 𝕄)
    = iprop((bigSep Finset.univ fun i => semVal (kcell (c, some (false, i))) 0) ∗ (bigSep Finset.univ fun i => semVal (kcell (c, some (true, i))) 0)) := by
  unfold Pipeline.ownSems0; exact bigSep_ways _
/-- the barrier is the one other. -/
theorem unscopedSems0_eq (c : Dev nD) : (unscopedSems0 c : sProp 𝕄) = semVal (barCell c) 0 := by
  unfold unscopedSems0; rw [bigSep_eq_bigSepL_of_eq [SemLoc.reg barS] (by decide) (by decide)]; rfl

theorem open_cells (c : Dev nD) :
    iprop(Pipeline.ownSems0 (Ix := Unit) (Name := ℕ) (U := UU) (Lvl := ℕ) (Val := Elt F) (τ := τ) osem c ∗ unscopedSems0 c ∗ dealt X c)
      ⊢ |={Set.univ}=> iprop((bigSep Finset.univ fun k => iprop(∃ κ : ℕ, cellInv ER (Rd X) κ (kcell (c, k))))
          ∗ (bigSep Finset.univ fun k => iprop(atPos ER (kcell (c, k)) 0 ∅ 0 ∗ reached ER (kcell (c, k)) 0)) ∗ toks c) := by
  have hv : iprop(Pipeline.ownSems0 (Ix := Unit) (Name := ℕ) (U := UU) (Lvl := ℕ) (Val := Elt F) (τ := τ) osem c ∗ unscopedSems0 c)
      ⊢ (bigSep Finset.univ fun k : CellIx => semVal (kcell (c, k)) 0 : sProp 𝕄) := by
    rw [ownSems0_eq, unscopedSems0_eq, bigSep_cells]
    iintro ⟨⟨HS, HV⟩, HB⟩
    isplitl [HB]; · iexact HB
    isplitl [HS] <;> iassumption
  have hi : iprop((bigSep Finset.univ fun k : CellIx => semVal (kcell (c, k)) 0) ∗ bigSep Finset.univ fun k : CellIx => roundState ER (Rd X) (kcell (c, k)) 0)
      ⊢ (|={Set.univ}=> bigSep Finset.univ fun k => iprop(∃ κ : ℕ, cellInv ER (Rd X) κ (kcell (c, k))) : sProp 𝕄) := by
    rw [← bigSep_sep']
    exact (bigSep_mono fun k _ => (Rounds.body_intro ER (Rd X) (kcell (c, k))).trans inv_alloc).trans (bigSep_fupd _ _)
  unfold dealt
  iintro ⟨Hos, Hus, Hst, Hat, Htok⟩
  ihave Hv := hv $$ [Hos Hus]
  · isplitl [Hos] <;> iassumption
  imod hi $$ [Hv Hst] with Hinv
  · isplitl [Hv] <;> iassumption
  imodintro
  isplitl [Hinv]; · iexact Hinv
  isplitl [Hat] <;> iassumption

/-- A persistent fact is at hand at every index. -/
theorem bigSep_with {I : Type} [DecidableEq I] {S : Finset I} {R : sProp 𝕄} [BI.Persistent R] {Φ Ψ : I → sProp 𝕄}
    (h : ∀ i ∈ S, iprop(R ∗ Φ i) ⊢ Ψ i) : iprop(R ∗ bigSep S Φ) ⊢ bigSep S Ψ :=
  (sep_mono_left (BI.bigSep_of_persistent S R)).trans (by rw [← bigSep_sep']; exact bigSep_mono h)

theorem linear_eq (c : Dev nD) :
    (linear c : sProp 𝕄) = iprop((bigSep Finset.univ fun k : CellIx => atPos ER (kcell (c, k)) 0 ∅ 0) ∗ payToks c) := by
  unfold linear payToks
  rw [bigSep_cells]
  have assoc (A B C D : sProp 𝕄) : iprop(A ∗ B ∗ C ∗ D) ⊢ iprop((A ∗ B ∗ C) ∗ D) := by
    iintro ⟨H1, H2, H3, H4⟩
    isplitr [H4]
    · isplitl [H1]; · iexact H1
      isplitl [H2] <;> iassumption
    · iexact H4
  have assoc' (A B C D : sProp 𝕄) : iprop((A ∗ B ∗ C) ∗ D) ⊢ iprop(A ∗ B ∗ C ∗ D) := by
    iintro ⟨⟨H1, H2, H3⟩, H4⟩
    isplitl [H1]; · iexact H1
    isplitl [H2]; · iexact H2
    isplitl [H3] <;> iassumption
  exact equiv_iff.mp ⟨assoc _ _ _ _, assoc' _ _ _ _⟩

theorem deal_out :
    (bigSep Finset.univ fun c : Dev nD => iprop((bigSep Finset.univ fun k => iprop(∃ κ : ℕ, cellInv ER (Rd X) κ (kcell (c, k))))
          ∗ (bigSep Finset.univ fun k => iprop(atPos ER (kcell (c, k)) 0 ∅ 0 ∗ reached ER (kcell (c, k)) 0)) ∗ toks c) : sProp 𝕄)
      ⊢ bigSep Finset.univ (opened X) := by
  rw [bigSep_sep', bigSep_sep', ← bigSep_univ_prod (fun ck : Dev nD × CellIx => iprop(∃ κ : ℕ, cellInv ER (Rd X) κ (kcell ck))),
    bigSep_congr (s := Finset.univ) (fun (c : Dev nD) _ => bigSep_sep' Finset.univ (fun k : CellIx => (atPos ER (kcell (c, k)) 0 ∅ 0 : sProp 𝕄)) (fun k => reached ER (kcell (c, k)) 0)),
    bigSep_sep', ← bigSep_univ_prod (fun ck : Dev nD × CellIx => (reached ER (kcell ck) 0 : sProp 𝕄))]
  iintro ⟨HI, ⟨Hat, #HR⟩, Htok⟩
  ihave HK := (BI.bigSep_exists_pi Finset.univ (fun (ck : Dev nD × CellIx) (κ : ℕ) => (cellInv ER (Rd X) κ (kcell ck) : sProp 𝕄))) $$ HI
  icases HK with ⟨%K, #HI⟩
  ihave Htk := (toks_across (F := F)) $$ Htok
  iapply (bigSep_with (R := records X K) (Φ := linear) (Ψ := opened X) fun c _ => by
    unfold opened; iintro H; iexists K; iexact H)
  isplitr
  · unfold records; isplitl; · iexact HI
    iexact HR
  · rw [BI.bigSep_congr (s := Finset.univ) fun (c : Dev nD) _ => linear_eq (F := F) c, bigSep_sep']
    isplitl [Hat] <;> iassumption

/-- The global step, from all the devices' counters at zero. -/
theorem open_all : (bigSep Finset.univ fun c => iprop(Pipeline.ownSems0 (Ix := Unit) (Name := ℕ) (U := UU) (Lvl := ℕ) (Val := Elt F) (τ := τ) osem c ∗ unscopedSems0 c ∗ dealt X c) : sProp 𝕄)
    ⊢ |={Set.univ}=> bigSep Finset.univ (opened X) :=
  ((bigSep_mono fun c _ => open_cells X c).trans (bigSep_fupd _ _)).trans (BI.fupd_mono (deal_out X))

end Cells

/-! ## The credit a device is launched with -/

theorem unit1_at (j : Fin 3) (d : Dev nD) (ck : Dev nD × CellIx) : unit1 j d (kcell ck) () = if ck = (nbr j d, none) then 1 else 0 := by
  unfold unit1
  rw [tallyAt_apply, show barCell (nbr j d) = kcell (nbr j d, none) from rfl]
  refine if_congr ⟨fun h => kcell_injective h.1, fun h => ⟨congrArg _ h, rfl⟩⟩ rfl rfl

theorem xfer_at (i : Fin 6) (d : Dev nD) (ck : Dev nD × CellIx) : xfer i d (kcell ck) () = if ck = (peer i d, some (true, i)) then amt i else 0 := by
  unfold xfer
  rw [tallyAt_apply, show recvCell i (peer i d) = kcell (peer i d, some (true, i)) from rfl]
  refine if_congr ⟨fun h => kcell_injective h.1, fun h => ⟨congrArg _ h, rfl⟩⟩ rfl rfl

theorem O₀_at (d : Dev nD) (ck : Dev nD × CellIx) :
    O₀ d (kcell ck) () = (∑ i, if ck = (peer i d, some (true, i)) then amt i else 0) + ∑ j : Fin 3, if ck = (nbr j d, none) then 1 else 0 := by
  rw [O₀_eq, Pi.add_apply, Finsupp.add_apply, Finset.sum_apply, Finset.sum_apply, Finsupp.finset_sum_apply, Finsupp.finset_sum_apply]
  exact congrArg₂ _ (Finset.sum_congr rfl fun i _ => xfer_at i d ck) (Finset.sum_congr rfl fun j _ => unit1_at j d ck)

/-- Every neighbour owes a barrier one unit; -/
theorem owed_bar (c : Dev nD) : ∑ d, O₀ d (kcell (c, none)) () = 3 := by
  rw [Finset.sum_congr rfl fun d _ => O₀_at d (c, none)]
  have h (d : Dev nD) : (∑ i, if ((c, none) : Dev nD × CellIx) = (peer i d, some (true, i)) then amt i else 0) = 0 :=
    Finset.sum_eq_zero fun i _ => if_neg fun e => by cases e
  rw [Finset.sum_congr rfl fun d _ => by rw [h d, Nat.zero_add], Finset.sum_comm]
  revert c; decide

/-- an arrival is owed its copy by the neighbour it comes from. -/
theorem owed_recv (i : Fin 6) (c : Dev nD) : ∑ d, O₀ d (kcell (c, some (true, i))) () = amt i := by
  rw [Finset.sum_congr rfl fun d _ => O₀_at d (c, some (true, i))]
  have h (d : Dev nD) : (∑ j : Fin 3, if ((c, some (true, i)) : Dev nD × CellIx) = (nbr j d, none) then 1 else 0) = 0 :=
    Finset.sum_eq_zero fun j _ => if_neg fun e => by cases e
  have h' (d : Dev nD) : (∑ i', if ((c, some (true, i)) : Dev nD × CellIx) = (peer i' d, some (true, i')) then amt i' else 0)
      = if d = peer i c then amt i else 0 := by
    rw [Finset.sum_eq_single i]
    · refine if_congr ⟨fun e => ?_, fun e => ?_⟩ rfl rfl
      · rw [show c = peer i d from congrArg Prod.fst e, peer_peer]
      · rw [e, peer_peer]
    · intro i' _ hi
      refine if_neg fun e => hi ?_
      exact ((Prod.ext_iff.mp (Option.some.inj (congrArg Prod.snd e))).2).symm
    · intro hn; exact absurd (Finset.mem_univ _) hn
  rw [Finset.sum_congr rfl fun d _ => by rw [h d, h' d, Nat.add_zero], Finset.sum_ite_eq' Finset.univ (peer i c) fun _ => amt i, if_pos (Finset.mem_univ _)]

theorem launch_at (ck : Dev nD × CellIx) {n : ℕ} (h : ∑ d, O₀ d (kcell ck) () = n) :
    tallyOn (kcell ck) (launchCredit (Pipeline.owing O₀) 0 (kcell ck)) = (tallyAt (kcell ck) () n : CellTallies nD τ sig Unit) := by
  unfold tallyAt; refine congrArg _ (Finsupp.ext fun u => ?_); cases u
  rw [Finsupp.single_eq_same, ← h]
  exact Pipeline.launchCredit_owing _ _ _

theorem creds (c : Dev nD) : (Pipeline.launchCred O₀ c : sProp 𝕄) ⊢ credits c := by
  unfold Pipeline.launchCred credits
  let e : Fin 6 ↪ SemLoc sig := ⟨fun i => csem (some (true, i)), fun i i' h => by
    have := csem_injective h; simpa using this⟩
  have h (ck : Dev nD × CellIx) {n : ℕ} (hn : ∑ d, O₀ d (kcell ck) () = n) :
      (cred (tallyOn (kcell ck) (launchCredit (Pipeline.owing O₀) 0 (kcell ck))) : sProp 𝕄) = cred (tallyAt (kcell ck) () n) := by
    rw [launch_at ck hn]
  rw [BI.bigSep_univ_split (SemLoc.reg barS)]
  refine BI.sep_mono (Entails.of_eq (h (c, none) (owed_bar c))) ?_
  refine (BI.bigSep_subset (t := Finset.univ.map e) fun sm hsm => ?_).trans ?_
  · obtain ⟨i, -, rfl⟩ := Finset.mem_map.mp hsm
    have hne : e i ≠ SemLoc.reg barS := fun hb => Option.some_ne_none _ (csem_injective (show csem (some (true, i)) = csem none from hb))
    exact Finset.mem_erase.mpr ⟨hne, Finset.mem_univ _⟩
  · rw [BI.bigSep_map]
    exact Entails.of_eq (BI.bigSep_congr fun i _ => h (c, some (true, i)) (owed_recv i c))

end Cert.Exchange

end
-- ==== Proof.Run.lean ====
/-
# The kernel's run

From any memory with its counters at zero, the four devices run the kernel to the end and leave every
device's result at what the four blocks and the weights make it, the arguments as they were and the
counters at zero.
-/
module

public import proofs.«01_k».proof.Proof.Tokens
public import Idealize.ShloMosaic.Lib.Pipeline.CollectiveSegs
public import Idealize.ShloMosaic.Lib.Pipeline.ValueKit.Geometry

@[expose] public section

noncomputable section

namespace Cert.Exchange

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat BodyObligation)

variable {F : FTy → Type} [FloatOps F]

local notation "𝕄" => MT nD τ sig Unit (Elt F) ℕ UU ℕ

variable (m : (x : Loc nD τ sig) → Buf (Elt F) x) (ρ : Dev nD → PrngReg)

abbrev s₀ : MemSt nD τ sig (Elt F) := ⟨m, fun _ => 0, ρ⟩

/-- Device `c`'s block, -/
def xin (c : Dev nD) : Vec F S2x64x64x64 .f32 := m ((c : Thread nD τ).loc main_arg0)
/-- the taps it holds, -/
def kin (c : Dev nD) : Vec F S3x3x64 .f32 := m ((c : Thread nD τ).loc main_arg1)
/-- and the mixing matrix it holds. -/
def win (c : Dev nD) : Vec F S64x64 .f32 := m ((c : Thread nD τ).loc main_arg2)

theorem cfg0_N : cfg0.N = 1 := by decide
def t₀ : Fin cfg0.N := ⟨0, by rw [cfg0_N]; decide⟩
theorem fin_N (t : Fin cfg0.N) : t = t₀ := by
  obtain ⟨t, ht⟩ := t; have := cfg0_N; exact Fin.ext (by simp only [t₀]; omega)

/-- What a device's body starts from besides its buffers, -/
def start (c : Dev nD) : sProp 𝕄 := iprop(opened (xin m) c ∗ credits c ∗ levAts L lv)
/-- with its scratch buffers, -/
def Φ₀ (c : Dev nD) : sProp 𝕄 := iprop(start m c ∗ scratch c)
/-- and what it leaves. -/
def Φ₁ (c : Dev nD) : sProp 𝕄 := iprop(scratch (F := F) c ∗ zeros c)

def dats (_ : Fin 1) (c : Dev nD) : Dat τ (Elt F) Unit ℕ UU ℕ cfg0 c where
  A w := (s₀ m ρ).mem ((cfg0.win w).arr.view.loc (c : Thread nD τ))
  after w _ := match w with
    | ⟨0, _⟩ => (win0_0.blk (0 : Fin 1)).view.read (Elt F) (xin m c)
    | ⟨1, _⟩ => (win0_1.blk (0 : Fin 1)).view.read (Elt F) (kin m c)
    | ⟨2, _⟩ => (win0_2.blk (0 : Fin 1)).view.read (Elt F) (win m c)
    | ⟨3, _⟩ => outOf (xin m) c (kin m c) (win m c)
  Φ t := match t with
    | ⟨0, _⟩ => Φ₀ m c
    | ⟨_ + 1, _⟩ => Φ₁ c
  q _ := fullShare
  owed t := match t with
    | ⟨0, _⟩ => O₀ c
    | ⟨_ + 1, _⟩ => 0

theorem bigSep_W (Φ : Fin cfg0.W → sProp 𝕄) : bigSep Finset.univ Φ = iprop(Φ (0 : Fin 4) ∗ Φ (1 : Fin 4) ∗ Φ (2 : Fin 4) ∗ Φ (3 : Fin 4)) := bigSep_W0 Φ

/-! ## A window's one block is its array -/

theorem stage_x (c : Dev nD) : (win0_0.blk (0 : Fin 1)).view.read (Elt F) (xin m c) = xin m c := by
  funext j
  refine (View.read_apply _ _).trans ?_
  refine congrArg (xin m c) (funext fun a => Fin.ext ?_)
  refine (Rect.emb_apply _ _ _).trans ?_
  show 0 * _ + 1 * (j a).val = (j a).val
  omega
theorem stage_k (c : Dev nD) : (win0_1.blk (0 : Fin 1)).view.read (Elt F) (kin m c) = kin m c := by
  funext j
  refine (View.read_apply _ _).trans ?_
  refine congrArg (kin m c) (funext fun a => Fin.ext ?_)
  refine (Rect.emb_apply _ _ _).trans ?_
  show 0 * _ + 1 * (j a).val = (j a).val
  omega
theorem stage_w (c : Dev nD) : (win0_2.blk (0 : Fin 1)).view.read (Elt F) (win m c) = win m c := by
  funext j
  refine (View.read_apply _ _).trans ?_
  refine congrArg (win m c) (funext fun a => Fin.ext ?_)
  refine (Rect.emb_apply _ _ _).trans ?_
  show 0 * _ + 1 * (j a).val = (j a).val
  omega

theorem owns_whole_ex (c : Dev nD) (b : Ref sig .tc) (X : b.ty.Contents (Elt F)) :
    (owns (Ix := Unit) (Name := ℕ) (U := UU) (Lvl := ℕ) (c : Thread nD τ) (Memref.whole b) fullShare X : sProp 𝕄)
      = iprop(∃ f : Buf (Elt F) ((c : Thread nD τ).loc b), ⌜f = X⌝ ∗ (((c : Thread nD τ).loc b) ↦{fullShare} f)) := by
  unfold owns; simp only [Memref.view_whole, View.read_whole, View.set_whole]

abbrev stg (c : Dev nD) (b : Ref sig .tc) (X : b.ty.Contents (Elt F)) : sProp 𝕄 :=
  iprop(∃ f : Buf (Elt F) ((c : Thread nD τ).loc b), ⌜f = X⌝ ∗ (((c : Thread nD τ).loc b) ↦{fullShare} f))

theorem fetch_x : (cfg0.win (0 : Fin 4)).fetch t₀ = true := rfl
theorem fetch_k : (cfg0.win (1 : Fin 4)).fetch t₀ = true := rfl
theorem fetch_w : (cfg0.win (2 : Fin 4)).fetch t₀ = true := rfl

/-- What the body is run from, -/
def pre (c : Dev nD) : sProp 𝕄 :=
  iprop(Φ₀ m c ∗ (dats m ρ 0 c).owesAt () t₀.castSucc
    ∗ (∃ d, stg c cc0_stg0_0 ((dats m ρ 0 c).before (0 : Fin 4) t₀ d))
    ∗ (∃ d, stg c cc0_stg1_0 ((dats m ρ 0 c).before (1 : Fin 4) t₀ d))
    ∗ (∃ d, stg c cc0_stg2_0 ((dats m ρ 0 c).before (2 : Fin 4) t₀ d))
    ∗ (∃ d, stg c cc0_stg3_0 ((dats m ρ 0 c).before (3 : Fin 4) t₀ d)))

/-- and to. -/
def post (c : Dev nD) : sProp 𝕄 :=
  iprop(Φ₁ (F := F) c ∗ (dats m ρ 0 c).owesAt () t₀.succ
    ∗ stg c cc0_stg0_0 ((win0_0.blk (0 : Fin 1)).view.read (Elt F) (xin m c))
    ∗ stg c cc0_stg1_0 ((win0_1.blk (0 : Fin 1)).view.read (Elt F) (kin m c))
    ∗ stg c cc0_stg2_0 ((win0_2.blk (0 : Fin 1)).view.read (Elt F) (win m c))
    ∗ stg c cc0_stg3_0 (outOf (xin m) c (kin m c) (win m c)))

theorem before_x (c : Dev nD) (d) : (dats m ρ 0 c).before (0 : Fin 4) t₀ d = xin m c := by
  unfold Dat.before; rw [if_pos (fetch_x)]; exact stage_x m c
theorem before_k (c : Dev nD) (d) : (dats m ρ 0 c).before (1 : Fin 4) t₀ d = kin m c := by
  unfold Dat.before; rw [if_pos (fetch_k)]; exact stage_k m c
theorem before_w (c : Dev nD) (d) : (dats m ρ 0 c).before (2 : Fin 4) t₀ d = win m c := by
  unfold Dat.before; rw [if_pos (fetch_w)]; exact stage_w m c

theorem owes_in (c : Dev nD) : (dats m ρ 0 c).owesAt () t₀.castSucc ⊢ owing (F := F) c (O₀ c) := by
  unfold Dat.owesAt Pipeline.owesWithin owing
  iintro ⟨%W, %hW, HO⟩
  iexists W
  iexact HO

theorem owes_out (c : Dev nD) : owing (F := F) c 0 ⊢ (dats m ρ 0 c).owesAt () t₀.succ := by
  unfold Dat.owesAt Pipeline.owesWithin owing
  iintro ⟨%W, HO⟩
  iexists W
  isplitr
  · ipureintro; exact fun _ _ => Or.inl trivial
  iexact HO

theorem run_point (c : Dev nD) :
    pre m ρ c ⊢ wp frame (wpE (defs₀ (F := F)) 𝒱₀ (c : Thread nD τ) none) Set.univ
          (cc0_body (Memref.whole cc0_stg0_0) (Memref.isWhole_whole _) (Memref.whole cc0_stg1_0) (Memref.isWhole_whole _)
            (Memref.whole cc0_stg2_0) (Memref.isWhole_whole _) (Memref.whole cc0_stg3_0) (Memref.isWhole_whole _)
            (Memref.whole cc0_scratch0) (Memref.isWhole_whole _) (Memref.whole cc0_scratch1) (Memref.isWhole_whole _)
            (Memref.whole cc0_scratch2) (Memref.isWhole_whole _) (Memref.whole cc0_scratch3) (Memref.isWhole_whole _)
            (Memref.whole cc0_scratch4) (Memref.isWhole_whole _) (Memref.whole cc0_scratch5) (Memref.isWhole_whole _)
            (Memref.whole cc0_scratch6) (Memref.isWhole_whole _) (Memref.whole cc0_scratch7) (Memref.isWhole_whole _)
            cc0_scratch8 cc0_scratch9) (fun _ => post m ρ c) := by
  unfold pre Φ₀ start opened
  iintro ⟨⟨⟨⟨%K, HR, Hl⟩, Hc, Hlv⟩, Hs⟩, Ho, ⟨%d0, %g0, %h0, H0⟩, ⟨%d1, %g1, %h1, H1⟩, ⟨%d2, %g2, %h2, H2⟩, ⟨%d3, %g3, %h3, H3⟩⟩
  rw [before_x] at h0; rw [before_k] at h1; rw [before_w] at h2
  subst h0 h1 h2
  iapply (body_run (xin m) K c (kin m c) (win m c) g3 fun _ => post m ρ c)
  isplitr []
  · unfold bodyPre
    ihave HO := (owes_in m ρ c) $$ Ho
    isplitl [HR]; · iexact HR
    isplitl [Hl]; · iexact Hl
    isplitl [Hc]; · iexact Hc
    isplitl [Hlv]; · iexact Hlv
    isplitl [Hs]; · iexact Hs
    isplitl [HO]; · iexact HO
    isplitl [H0]; · iexact H0
    isplitl [H1]; · iexact H1
    isplitl [H2]; · iexact H2
    iexact H3
  unfold bodyPost post Φ₁
  rw [stage_x, stage_k, stage_w]
  iintro ⟨Hs, Hz, HO, H0, H1, H2, H3⟩
  isplitl [Hs Hz]
  · isplitl [Hs] <;> iassumption
  isplitl [HO]
  · iapply (owes_out m ρ c); iexact HO
  isplitl [H0]
  · iexists _; isplitr; · (ipureintro; rfl)
    iexact H0
  isplitl [H1]
  · iexists _; isplitr; · (ipureintro; rfl)
    iexact H1
  isplitl [H2]
  · iexists _; isplitr; · (ipureintro; rfl)
    iexact H2
  iexists _; isplitr; · (ipureintro; rfl)
  iexact H3

set_option maxRecDepth 4000 in
/-- The body at the pipeline's one point. -/
theorem body_obligation (c : Dev nD) : BodyObligation (dats m ρ 0 c) (defs₀ (F := F)) 𝒱₀ () Set.univ := fun t => by
  rw [fin_N t]
  rw [bigSep_W, bigSep_W]
  simp only [owns_whole_ex]
  exact run_point m ρ c

/-! ## Around the body -/

theorem share_eq (c : Dev nD) (w : Fin cfg0.W) : (dats m ρ 0 c).share w = fullShare := by
  unfold Dat.share; split <;> rfl

theorem start_intro (c : Dev nD) :
    iprop(Pipeline.unscopedRestP Pipeline.Prefetch.none cfg0.spec c (fun b => m ((c : Thread nD τ).loc b)) ∗ levAts L lv
        ∗ Pipeline.launchCred O₀ c ∗ prngReg c (ρ c) ∗ opened (xin m) c)
      ⊢ |={Set.univ}=> iprop(start m c ∗ emp) := by
  iintro ⟨-, Hlev, Hcr, -, HG⟩
  ihave Hc := (creds (F := F) c) $$ Hcr
  imodintro
  unfold start
  isplitl
  · isplitl [HG]; · iexact HG
    isplitl [Hc] <;> iassumption
  · iempintro

/-- The buffers of a device that no window stages are the scratch. -/
theorem rest_eq (c : Dev nD) : (Pipeline.scopedRest (Ix := Unit) (Name := ℕ) (U := UU) (Lvl := ℕ) (Val := Elt F) cfg0.spec c : sProp 𝕄) = scratch c :=
  scopedRest0_eq c

theorem phi0_intro (c : Dev nD) :
    iprop(start m c ∗ Pipeline.prefHeld Pipeline.Prefetch.none c (fun _ => fullShare.right) (fun k => k.elim0) ∗ Pipeline.scopedRest cfg0.spec c)
      ⊢ (dats m ρ 0 c).Φ 0 := by
  rw [show (dats m ρ 0 c).Φ 0 = Φ₀ m c from rfl, rest_eq]
  unfold Φ₀
  iintro ⟨Hs, -, Hr⟩
  isplitl [Hs] <;> iassumption

theorem phi1_exit (c : Dev nD) :
    (dats m ρ 0 c).Φ (Fin.last cfg0.N) ⊢ iprop(unscopedSems0 c ∗ Pipeline.ownSems0 osem c ∗ Pipeline.scopedRest cfg0.spec c) := by
  rw [show (dats m ρ 0 c).Φ (Fin.last cfg0.N) = Φ₁ (F := F) c from rfl, rest_eq, ownSems0_eq, unscopedSems0_eq]
  unfold Φ₁ zeros
  iintro ⟨Hr, HB, HS, HV⟩
  isplitl [HB]; · iexact HB
  isplitl [HS HV]
  · isplitl [HS] <;> iassumption
  iexact Hr

theorem waits (c : Dev nD) : (levAts L lv : sProp 𝕄) ⊢ Pipeline.cellsWaits cfgs (dats m ρ) () 0 c :=
  Pipeline.cellsWaits_intro cfgs (dats m ρ) () 0 c fun w s t =>
    mayWait_stage c _ (by fin_cases w <;> fin_cases s <;> decide) _ (by
      rcases t with ⟨_ | _, ht⟩
      · exact Or.inl rfl
      · exact Or.inr rfl)

/-! ## The run -/

def u₀ : UU := (initOf (Pipeline.cells cfgs cellOf_inj) (Pipeline.launchToks cfgs cellOf_inj), initOf allCells allToks)

/-- What the array of a window holds in the end. -/
def finalA (c : Dev nD) (w : Fin cfg0.W) : Buf (Elt F) ((cfg0.win w).arr.view.loc (c : Thread nD τ)) := (dats m ρ 0 c).arrAt w cfg0.N

def QC : PUnit × MemSt nD τ sig (Elt F) → Prop := fun r =>
  ∀ c : Dev nD, ∀ w : Fin cfg0.W, r.2.mem ((cfg0.win w).arr.view.loc (c : Thread nD τ)) = finalA m ρ c w

set_option maxRecDepth 8000 in
/-- From any memory with its counters at zero every fair execution of the four devices ends, each window's
    array holding what its staging buffer was left with and every counter at zero. -/
theorem run_arrays : θ_run defs (onTc (τ := τ) (main (F := F))) (s₀ m ρ) (fun r => QC m ρ r ∧ r.2.sem = fun _ => 0) :=
  Pipeline.θ_run_region_owing_glob_pf (fun p => (cfgs p).toPCfg) (fun p => (cfgs p).toPCfg_adm) (dats m ρ) () cellOf_inj (0 : Fin 1)
    winFacts0.to₀ ownSemFacts (Pipeline.PreFacts.none _) EP defs₀ 𝒱₀ m ρ main
    (hmain := fun _ => rfl)
    (hbody := body_obligation m ρ) (hne := fun w => by fin_cases w <;> exact Nat.succ_pos _) (harr := arr_whole0) (hstage := stage_whole0) (hshare := share_eq m ρ)
    (hdistinct := winFacts0.arr_inj)
    (O₀ := O₀) (howed₀ := fun _ => rfl) (howedN := fun _ => rfl)
    (L := L) (lv := lv) (hL := L_of_ne) (hwaits := waits m ρ)
    (G := dealt (xin m)) (G' := opened (xin m)) (u₀ := u₀)
    (hu₀ := by
      unfold u₀
      iintro Hu
      ihave H := (ownU_pair _ _) $$ Hu
      icases H with ⟨HP, HX⟩
      imod (fund_all (xin m)) $$ HX with HG
      imodintro
      isplitl [HP] <;> iassumption)
    (hglob := open_all (xin m))
    (hA := fun _ _ => rfl) (hpf := fun _ k => k.elim0)
    (X := start m) (Y := fun c => unscopedSems0 c) (Z := fun _ => iprop(emp))
    (hX := start_intro m ρ) (hin := phi0_intro m ρ) (hout := phi1_exit m ρ)
    (QY := fun c s => ∀ sm : SemLoc sig, sm.isScoped .tc = false → s.sem ((c.tc : Thread nD τ), sm) = 0)
    (hY := fun c s' => by
      iintro ⟨Hu, -, HSI⟩
      iapply (Pipeline.unscopedSems0_read (X := unscopedSems0 c) (c := c) fupd_intro s')
      isplitl [Hu] <;> iassumption)
    (hQ := fun _ h hs => ⟨fun c w => (h c).1 w, sem_eq_zero hs fun c => (h c).2.2⟩)

/-! ## What the arrays hold -/

theorem final_in (c : Dev nD) (w : Fin 3) :
    finalA m ρ c (w.castSucc : Fin 4) = m ((cfg0.win (w.castSucc : Fin 4)).arr.view.loc (c : Thread nD τ)) := by
  fin_cases w
  · exact (dats m ρ 0 c).arrAt_in (0 : Fin 4) rfl _
  · exact (dats m ρ 0 c).arrAt_in (1 : Fin 4) rfl _
  · exact (dats m ρ 0 c).arrAt_in (2 : Fin 4) rfl _

theorem final_out (c : Dev nD) : finalA m ρ c (3 : Fin 4) = outOf (xin m) c (kin m c) (win m c) := by
  refine (dats m ρ 0 c).arrAt_eq_of_after_last (3 : Fin 4) t₀ (by decide +kernel) _ fun j => ?_
  rfl

/-- Every fair execution ends with each device's result the one its blocks make, its arguments as they were
    and its counters at zero. -/
theorem run_main : θ_run defs (onTc (τ := τ) (main (F := F))) (s₀ m ρ) (fun r =>
    (∀ c : Dev nD, r.2.mem ((c : Thread nD τ).loc main_v1) = outOf (xin m) c (kin m c) (win m c)
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2))
    ∧ r.2.sem = fun _ => 0) :=
  (θ_run defs _ _).mono (fun r h => ⟨fun c => ⟨(h.1 c (3 : Fin 4)).trans (final_out m ρ c), (h.1 c (0 : Fin 4)).trans (final_in m ρ c 0),
    (h.1 c (1 : Fin 4)).trans (final_in m ρ c 1), (h.1 c (2 : Fin 4)).trans (final_in m ρ c 2)⟩, h.2⟩) (run_arrays m ρ)

end Cert.Exchange

end
-- ==== Proof.RefLine.lean ====
module

public import proofs.«01_k».proof.Proof.Gen.ReferenceIdeal
public import Idealize.ShloMosaic.Lib.StableHlo.RunHlo
public import Idealize.ShloMosaic.Lib.StableHlo.RunRead
public import Idealize.ShloMosaic.Lib.Claim

/-! The reference as a straight line of array operations, in eight stretches. -/

@[expose] public section

set_option maxRecDepth 100000

namespace Cert.Plain

noncomputable section

open Cert.ReferenceIdeal Cert.ReferenceIdeal.Gen
open Idealize.ShloMosaic Idealize.ShloMosaic.StableHlo Idealize.SL.Sem

variable {F : FTy → Type} [FloatOps F]

/-- The whole array's statistics: the mean of each image's channel, then its variance. -/
abbrev statsOps : List (HloOp τ sig (Elt F)) := [
  nullary main_cst (constant S_ .f32 0x00000000#32),
  binary main_arg0 main_cst main_v0 (fun x v => Host.reduceAdd x v reducesTo_S2x128x128x64_S2x64_d1_2 h_S_),
  unary main_v0 main_v1 (broadcastInDim S2x1x1x64 ![0, 3] bcast_S2x64_S2x1x1x64_0_3),
  nullary main_cst_0 (constant S_ .f32 0x46800000#32),
  unary main_cst_0 main_v2 (broadcastInDim S2x1x1x64 ![] bcast_S_S2x1x1x64),
  binary main_v1 main_v2 main_v3 Host.divf,
  nullary main_c (constantI S_ 32 0#32),
  TRef.nullary (.of (T := ⟨S_, .f32⟩) main_call0_cst) (constant S_ .f32 0x00000000#32),
  TRef.binary (.of (T := ⟨S2x128x128x64, .f32⟩) main_arg0) (.of (T := ⟨S_, .f32⟩) main_call0_cst) (.of (T := ⟨S2x64, .f32⟩) main_call0_v0) (fun x v => Host.reduceAdd x v reducesTo_S2x128x128x64_S2x64_d1_2 h_S_),
  TRef.unary (.of (T := ⟨S2x64, .f32⟩) main_call0_v0) (.of (T := ⟨S2x1x1x64, .f32⟩) main_call0_v1) (broadcastInDim S2x1x1x64 ![0, 3] bcast_S2x64_S2x1x1x64_0_3),
  TRef.nullary (.of (T := ⟨S_, .f32⟩) main_call0_cst_0) (constant S_ .f32 0x46800000#32),
  TRef.unary (.of (T := ⟨S_, .f32⟩) main_call0_cst_0) (.of (T := ⟨S2x1x1x64, .f32⟩) main_call0_v2) (broadcastInDim S2x1x1x64 ![] bcast_S_S2x1x1x64),
  TRef.binary (.of (T := ⟨S2x1x1x64, .f32⟩) main_call0_v1) (.of (T := ⟨S2x1x1x64, .f32⟩) main_call0_v2) (.of (T := ⟨S2x1x1x64, .f32⟩) main_call0_v3) Host.divf,
  TRef.unary (.of (T := ⟨S2x1x1x64, .f32⟩) main_call0_v3) (.of (T := ⟨S2x128x128x64, .f32⟩) main_call0_v4) (broadcastInDim S2x128x128x64 ![0, 1, 2, 3] bcast_S2x1x1x64_S2x128x128x64_0_1_2_3),
  TRef.binary (.of (T := ⟨S2x128x128x64, .f32⟩) main_arg0) (.of (T := ⟨S2x128x128x64, .f32⟩) main_call0_v4) (.of (T := ⟨S2x128x128x64, .f32⟩) main_call0_v5) subf,
  TRef.binary (.of (T := ⟨S2x128x128x64, .f32⟩) main_call0_v5) (.of (T := ⟨S2x128x128x64, .f32⟩) main_call0_v5) (.of (T := ⟨S2x128x128x64, .f32⟩) main_call0_v6) mulf,
  TRef.unary (.of (T := ⟨S_, .i32⟩) main_c) (.of (T := ⟨S_, .f32⟩) main_call0_v7) (sitofp .f32),
  TRef.nullary (.of (T := ⟨S_, .f32⟩) main_call0_cst_1) (constant S_ .f32 0x46800000#32),
  TRef.binary (.of (T := ⟨S_, .f32⟩) main_call0_cst_1) (.of (T := ⟨S_, .f32⟩) main_call0_v7) (.of (T := ⟨S_, .f32⟩) main_call0_v8) subf,
  TRef.nullary (.of (T := ⟨S_, .f32⟩) main_call0_cst_2) (constant S_ .f32 0x00000000#32),
  TRef.binary (.of (T := ⟨S2x128x128x64, .f32⟩) main_call0_v6) (.of (T := ⟨S_, .f32⟩) main_call0_cst_2) (.of (T := ⟨S2x64, .f32⟩) main_call0_v9) (fun x v => Host.reduceAdd x v reducesTo_S2x128x128x64_S2x64_d1_2 h_S_),
  TRef.unary (.of (T := ⟨S2x64, .f32⟩) main_call0_v9) (.of (T := ⟨S2x1x1x64, .f32⟩) main_call0_v10) (broadcastInDim S2x1x1x64 ![0, 3] bcast_S2x64_S2x1x1x64_0_3),
  TRef.unary (.of (T := ⟨S_, .f32⟩) main_call0_v8) (.of (T := ⟨S2x1x1x64, .f32⟩) main_call0_v11) (broadcastInDim S2x1x1x64 ![] bcast_S_S2x1x1x64),
  TRef.binary (.of (T := ⟨S2x1x1x64, .f32⟩) main_call0_v10) (.of (T := ⟨S2x1x1x64, .f32⟩) main_call0_v11) (.of (T := ⟨S2x1x1x64, .f32⟩) main_call0_v12) Host.divf,
  TRef.nullary (.of (T := ⟨S_, .f32⟩) main_call0_cst_3) (constant S_ .f32 0x00000000#32),
  TRef.binary (.of (T := ⟨S_, .f32⟩) main_call0_v8) (.of (T := ⟨S_, .f32⟩) main_call0_cst_3) (.of (T := ⟨S_, .i1⟩) main_call0_v13) (cmpf .ogt),
  TRef.nullary (.of (T := ⟨S_, .f32⟩) main_call0_cst_4) (constant S_ .f32 0x7FC00000#32),
  TRef.unary (.of (T := ⟨S_, .f32⟩) main_call0_cst_4) (.of (T := ⟨S_, .f32⟩) main_call0_call0_v0) id,
  TRef.unary (.of (T := ⟨S_, .f32⟩) main_call0_call0_v0) (.of (T := ⟨S2x1x1x64, .f32⟩) main_call0_call0_v1) (broadcastInDim S2x1x1x64 ![] bcast_S_S2x1x1x64),
  TRef.ternary (.of (T := ⟨S_, .i1⟩) main_call0_v13) (.of (T := ⟨S2x1x1x64, .f32⟩) main_call0_v12) (.of (T := ⟨S2x1x1x64, .f32⟩) main_call0_call0_v1) (.of (T := ⟨S2x1x1x64, .f32⟩) main_v4) (fun p a b => select (broadcastInDim S2x1x1x64 ![] bcast_S_S2x1x1x64 p) a b)]

/-- The array less its mean, over the square root of the variance plus the small constant. -/
abbrev normOps : List (HloOp τ sig (Elt F)) := [
  unary main_v3 main_v5 (broadcastInDim S2x128x128x64 ![0, 1, 2, 3] bcast_S2x1x1x64_S2x128x128x64_0_1_2_3),
  binary main_arg0 main_v5 main_v6 subf,
  nullary main_cst_1 (constant S_ .f32 0x3727C5AC#32),
  unary main_cst_1 main_v7 (broadcastInDim S2x1x1x64 ![] bcast_S_S2x1x1x64),
  binary main_v4 main_v7 main_v8 addf,
  unary main_v8 main_v9 Host.sqrt,
  unary main_v9 main_v10 (broadcastInDim S2x128x128x64 ![0, 1, 2, 3] bcast_S2x1x1x64_S2x128x128x64_0_1_2_3),
  binary main_v6 main_v10 main_v11 Host.divf]

/-- No image is added before the first or after the last. -/
abbrev imageOps : List (HloOp τ sig (Elt F)) := [
  nullary main_c_2 (constantI S_ 32 0#32),
  TRef.unary (.of (T := ⟨S2x128x128x64, .f32⟩) main_v11) (.of (T := ⟨S1x128x128x64, .f32⟩) main_call1_v0) (extractStridedSlice S1x128x128x64 ![0, 0, 0, 0] · slices_S2x128x128x64_S1x128x128x64_0_0_0_0),
  TRef.unary (.of (T := ⟨S1x128x128x64, .f32⟩) main_call1_v0) (.of (T := ⟨S1x0x128x128x64, .f32⟩) main_call1_v1) (broadcastInDim S1x0x128x128x64 ![0, 2, 3, 4] bcast_S1x128x128x64_S1x0x128x128x64_0_2_3_4),
  TRef.reshape (.of (T := ⟨S1x0x128x128x64, .f32⟩) main_call1_v1) (.of (T := ⟨S0x128x128x64, .f32⟩) main_call1_v2) (rfl : (.f32 : EltTy) = .f32) shapeCasts_S1x0x128x128x64_S0x128x128x64,
  TRef.unary (.of (T := ⟨S2x128x128x64, .f32⟩) main_v11) (.of (T := ⟨S1x128x128x64, .f32⟩) main_call1_v3) (extractStridedSlice S1x128x128x64 ![1, 0, 0, 0] · slices_S2x128x128x64_S1x128x128x64_1_0_0_0),
  TRef.unary (.of (T := ⟨S1x128x128x64, .f32⟩) main_call1_v3) (.of (T := ⟨S1x0x128x128x64, .f32⟩) main_call1_v4) (broadcastInDim S1x0x128x128x64 ![0, 2, 3, 4] bcast_S1x128x128x64_S1x0x128x128x64_0_2_3_4),
  TRef.reshape (.of (T := ⟨S1x0x128x128x64, .f32⟩) main_call1_v4) (.of (T := ⟨S0x128x128x64, .f32⟩) main_call1_v5) (rfl : (.f32 : EltTy) = .f32) shapeCasts_S1x0x128x128x64_S0x128x128x64,
  TRef.nary (Ts := ![⟨S0x128x128x64, .f32⟩, ⟨S2x128x128x64, .f32⟩, ⟨S0x128x128x64, .f32⟩]) (Fin.cons (.of (T := ⟨S0x128x128x64, .f32⟩) main_call1_v2) (Fin.cons (.of (T := ⟨S2x128x128x64, .f32⟩) main_v11) (Fin.cons (.of (T := ⟨S0x128x128x64, .f32⟩) main_call1_v5) (fun k => k.elim0)))) (.of (T := ⟨S2x128x128x64, .f32⟩) main_call1_v6) (fun u => (concatenate S2x128x128x64 0 [⟨S0x128x128x64, (u 0 : (⟨S0x128x128x64, .f32⟩ : BufTy).Contents (Elt F))⟩, ⟨S2x128x128x64, (u 1 : (⟨S2x128x128x64, .f32⟩ : BufTy).Contents (Elt F))⟩, ⟨S0x128x128x64, (u 2 : (⟨S0x128x128x64, .f32⟩ : BufTy).Contents (Elt F))⟩] concatenates_S0x128x128x64_S2x128x128x64_S0x128x128x64_S2x128x128x64_d0 : (⟨S2x128x128x64, .f32⟩ : BufTy).Contents (Elt F)))]

/-- The first row is repeated once before and the last once after. -/
abbrev rowOps : List (HloOp τ sig (Elt F)) := [
  TRef.unary (.of (T := ⟨S2x128x128x64, .f32⟩) main_call1_v6) (.of (T := ⟨S2x1x128x64, .f32⟩) main_call1_v7) (extractStridedSlice S2x1x128x64 ![0, 0, 0, 0] · slices_S2x128x128x64_S2x1x128x64_0_0_0_0),
  TRef.unary (.of (T := ⟨S2x1x128x64, .f32⟩) main_call1_v7) (.of (T := ⟨S2x1x1x128x64, .f32⟩) main_call1_v8) (broadcastInDim S2x1x1x128x64 ![0, 1, 3, 4] bcast_S2x1x128x64_S2x1x1x128x64_0_1_3_4),
  TRef.reshape (.of (T := ⟨S2x1x1x128x64, .f32⟩) main_call1_v8) (.of (T := ⟨S2x1x128x64, .f32⟩) main_call1_v9) (rfl : (.f32 : EltTy) = .f32) shapeCasts_S2x1x1x128x64_S2x1x128x64,
  TRef.unary (.of (T := ⟨S2x128x128x64, .f32⟩) main_call1_v6) (.of (T := ⟨S2x1x128x64, .f32⟩) main_call1_v10) (extractStridedSlice S2x1x128x64 ![0, 127, 0, 0] · slices_S2x128x128x64_S2x1x128x64_0_127_0_0),
  TRef.unary (.of (T := ⟨S2x1x128x64, .f32⟩) main_call1_v10) (.of (T := ⟨S2x1x1x128x64, .f32⟩) main_call1_v11) (broadcastInDim S2x1x1x128x64 ![0, 1, 3, 4] bcast_S2x1x128x64_S2x1x1x128x64_0_1_3_4),
  TRef.reshape (.of (T := ⟨S2x1x1x128x64, .f32⟩) main_call1_v11) (.of (T := ⟨S2x1x128x64, .f32⟩) main_call1_v12) (rfl : (.f32 : EltTy) = .f32) shapeCasts_S2x1x1x128x64_S2x1x128x64,
  TRef.nary (Ts := ![⟨S2x1x128x64, .f32⟩, ⟨S2x128x128x64, .f32⟩, ⟨S2x1x128x64, .f32⟩]) (Fin.cons (.of (T := ⟨S2x1x128x64, .f32⟩) main_call1_v9) (Fin.cons (.of (T := ⟨S2x128x128x64, .f32⟩) main_call1_v6) (Fin.cons (.of (T := ⟨S2x1x128x64, .f32⟩) main_call1_v12) (fun k => k.elim0)))) (.of (T := ⟨S2x130x128x64, .f32⟩) main_call1_v13) (fun u => (concatenate S2x130x128x64 1 [⟨S2x1x128x64, (u 0 : (⟨S2x1x128x64, .f32⟩ : BufTy).Contents (Elt F))⟩, ⟨S2x128x128x64, (u 1 : (⟨S2x128x128x64, .f32⟩ : BufTy).Contents (Elt F))⟩, ⟨S2x1x128x64, (u 2 : (⟨S2x1x128x64, .f32⟩ : BufTy).Contents (Elt F))⟩] concatenates_S2x1x128x64_S2x128x128x64_S2x1x128x64_S2x130x128x64_d1 : (⟨S2x130x128x64, .f32⟩ : BufTy).Contents (Elt F)))]

/-- The first column is repeated once before and the last once after. -/
abbrev colOps : List (HloOp τ sig (Elt F)) := [
  TRef.unary (.of (T := ⟨S2x130x128x64, .f32⟩) main_call1_v13) (.of (T := ⟨S2x130x1x64, .f32⟩) main_call1_v14) (extractStridedSlice S2x130x1x64 ![0, 0, 0, 0] · slices_S2x130x128x64_S2x130x1x64_0_0_0_0),
  TRef.unary (.of (T := ⟨S2x130x1x64, .f32⟩) main_call1_v14) (.of (T := ⟨S2x130x1x1x64, .f32⟩) main_call1_v15) (broadcastInDim S2x130x1x1x64 ![0, 1, 2, 4] bcast_S2x130x1x64_S2x130x1x1x64_0_1_2_4),
  TRef.reshape (.of (T := ⟨S2x130x1x1x64, .f32⟩) main_call1_v15) (.of (T := ⟨S2x130x1x64, .f32⟩) main_call1_v16) (rfl : (.f32 : EltTy) = .f32) shapeCasts_S2x130x1x1x64_S2x130x1x64,
  TRef.unary (.of (T := ⟨S2x130x128x64, .f32⟩) main_call1_v13) (.of (T := ⟨S2x130x1x64, .f32⟩) main_call1_v17) (extractStridedSlice S2x130x1x64 ![0, 0, 127, 0] · slices_S2x130x128x64_S2x130x1x64_0_0_127_0),
  TRef.unary (.of (T := ⟨S2x130x1x64, .f32⟩) main_call1_v17) (.of (T := ⟨S2x130x1x1x64, .f32⟩) main_call1_v18) (broadcastInDim S2x130x1x1x64 ![0, 1, 2, 4] bcast_S2x130x1x64_S2x130x1x1x64_0_1_2_4),
  TRef.reshape (.of (T := ⟨S2x130x1x1x64, .f32⟩) main_call1_v18) (.of (T := ⟨S2x130x1x64, .f32⟩) main_call1_v19) (rfl : (.f32 : EltTy) = .f32) shapeCasts_S2x130x1x1x64_S2x130x1x64,
  TRef.nary (Ts := ![⟨S2x130x1x64, .f32⟩, ⟨S2x130x128x64, .f32⟩, ⟨S2x130x1x64, .f32⟩]) (Fin.cons (.of (T := ⟨S2x130x1x64, .f32⟩) main_call1_v16) (Fin.cons (.of (T := ⟨S2x130x128x64, .f32⟩) main_call1_v13) (Fin.cons (.of (T := ⟨S2x130x1x64, .f32⟩) main_call1_v19) (fun k => k.elim0)))) (.of (T := ⟨S2x130x130x64, .f32⟩) main_call1_v20) (fun u => (concatenate S2x130x130x64 2 [⟨S2x130x1x64, (u 0 : (⟨S2x130x1x64, .f32⟩ : BufTy).Contents (Elt F))⟩, ⟨S2x130x128x64, (u 1 : (⟨S2x130x128x64, .f32⟩ : BufTy).Contents (Elt F))⟩, ⟨S2x130x1x64, (u 2 : (⟨S2x130x1x64, .f32⟩ : BufTy).Contents (Elt F))⟩] concatenates_S2x130x1x64_S2x130x128x64_S2x130x1x64_S2x130x130x64_d2 : (⟨S2x130x130x64, .f32⟩ : BufTy).Contents (Elt F)))]

/-- No channel is added before the first or after the last. -/
abbrev chanOps : List (HloOp τ sig (Elt F)) := [
  TRef.unary (.of (T := ⟨S2x130x130x64, .f32⟩) main_call1_v20) (.of (T := ⟨S2x130x130x1, .f32⟩) main_call1_v21) (extractStridedSlice S2x130x130x1 ![0, 0, 0, 0] · slices_S2x130x130x64_S2x130x130x1_0_0_0_0),
  TRef.unary (.of (T := ⟨S2x130x130x1, .f32⟩) main_call1_v21) (.of (T := ⟨S2x130x130x1x0, .f32⟩) main_call1_v22) (broadcastInDim S2x130x130x1x0 ![0, 1, 2, 3] bcast_S2x130x130x1_S2x130x130x1x0_0_1_2_3),
  TRef.reshape (.of (T := ⟨S2x130x130x1x0, .f32⟩) main_call1_v22) (.of (T := ⟨S2x130x130x0, .f32⟩) main_call1_v23) (rfl : (.f32 : EltTy) = .f32) shapeCasts_S2x130x130x1x0_S2x130x130x0,
  TRef.unary (.of (T := ⟨S2x130x130x64, .f32⟩) main_call1_v20) (.of (T := ⟨S2x130x130x1, .f32⟩) main_call1_v24) (extractStridedSlice S2x130x130x1 ![0, 0, 0, 63] · slices_S2x130x130x64_S2x130x130x1_0_0_0_63),
  TRef.unary (.of (T := ⟨S2x130x130x1, .f32⟩) main_call1_v24) (.of (T := ⟨S2x130x130x1x0, .f32⟩) main_call1_v25) (broadcastInDim S2x130x130x1x0 ![0, 1, 2, 3] bcast_S2x130x130x1_S2x130x130x1x0_0_1_2_3),
  TRef.reshape (.of (T := ⟨S2x130x130x1x0, .f32⟩) main_call1_v25) (.of (T := ⟨S2x130x130x0, .f32⟩) main_call1_v26) (rfl : (.f32 : EltTy) = .f32) shapeCasts_S2x130x130x1x0_S2x130x130x0,
  TRef.nary (Ts := ![⟨S2x130x130x0, .f32⟩, ⟨S2x130x130x64, .f32⟩, ⟨S2x130x130x0, .f32⟩]) (Fin.cons (.of (T := ⟨S2x130x130x0, .f32⟩) main_call1_v23) (Fin.cons (.of (T := ⟨S2x130x130x64, .f32⟩) main_call1_v20) (Fin.cons (.of (T := ⟨S2x130x130x0, .f32⟩) main_call1_v26) (fun k => k.elim0)))) (.of (T := ⟨S2x130x130x64, .f32⟩) main_v12) (fun u => (concatenate S2x130x130x64 3 [⟨S2x130x130x0, (u 0 : (⟨S2x130x130x0, .f32⟩ : BufTy).Contents (Elt F))⟩, ⟨S2x130x130x64, (u 1 : (⟨S2x130x130x64, .f32⟩ : BufTy).Contents (Elt F))⟩, ⟨S2x130x130x0, (u 2 : (⟨S2x130x130x0, .f32⟩ : BufTy).Contents (Elt F))⟩] concatenates_S2x130x130x0_S2x130x130x64_S2x130x130x0_S2x130x130x64_d3 : (⟨S2x130x130x64, .f32⟩ : BufTy).Contents (Elt F)))]

/-- The nine taps: each shifts the padded array, scales it by one row of the kernel, and adds it on. -/
abbrev tapOps : List (HloOp τ sig (Elt F)) := [
  nullary main_cst_3 (constant S_ .f32 0x00000000#32),
  unary main_cst_3 main_v13 (broadcastInDim S2x128x128x64 ![] bcast_S_S2x128x128x64),
  unary main_v12 main_v14 (extractStridedSlice S2x128x128x64 ![0, 0, 0, 0] · slices_S2x130x130x64_S2x128x128x64_0_0_0_0),
  unary main_arg1 main_v15 (extractStridedSlice S1x1x64 ![0, 0, 0] · slices_S3x3x64_S1x1x64_0_0_0),
  reshape main_v15 main_v16 (rfl : (.f32 : EltTy) = .f32) shapeCasts_S1x1x64_S64,
  unary main_v16 main_v17 (broadcastInDim S1x1x1x64 ![3] bcast_S64_S1x1x1x64_3),
  unary main_v17 main_v18 (broadcastInDim S2x128x128x64 ![0, 1, 2, 3] bcast_S1x1x1x64_S2x128x128x64_0_1_2_3),
  binary main_v14 main_v18 main_v19 mulf,
  binary main_v13 main_v19 main_v20 addf,
  unary main_v12 main_v21 (extractStridedSlice S2x128x128x64 ![0, 0, 1, 0] · slices_S2x130x130x64_S2x128x128x64_0_0_1_0),
  unary main_arg1 main_v22 (extractStridedSlice S1x1x64 ![0, 1, 0] · slices_S3x3x64_S1x1x64_0_1_0),
  reshape main_v22 main_v23 (rfl : (.f32 : EltTy) = .f32) shapeCasts_S1x1x64_S64,
  unary main_v23 main_v24 (broadcastInDim S1x1x1x64 ![3] bcast_S64_S1x1x1x64_3),
  unary main_v24 main_v25 (broadcastInDim S2x128x128x64 ![0, 1, 2, 3] bcast_S1x1x1x64_S2x128x128x64_0_1_2_3),
  binary main_v21 main_v25 main_v26 mulf,
  binary main_v20 main_v26 main_v27 addf,
  unary main_v12 main_v28 (extractStridedSlice S2x128x128x64 ![0, 0, 2, 0] · slices_S2x130x130x64_S2x128x128x64_0_0_2_0),
  unary main_arg1 main_v29 (extractStridedSlice S1x1x64 ![0, 2, 0] · slices_S3x3x64_S1x1x64_0_2_0),
  reshape main_v29 main_v30 (rfl : (.f32 : EltTy) = .f32) shapeCasts_S1x1x64_S64,
  unary main_v30 main_v31 (broadcastInDim S1x1x1x64 ![3] bcast_S64_S1x1x1x64_3),
  unary main_v31 main_v32 (broadcastInDim S2x128x128x64 ![0, 1, 2, 3] bcast_S1x1x1x64_S2x128x128x64_0_1_2_3),
  binary main_v28 main_v32 main_v33 mulf,
  binary main_v27 main_v33 main_v34 addf,
  unary main_v12 main_v35 (extractStridedSlice S2x128x128x64 ![0, 1, 0, 0] · slices_S2x130x130x64_S2x128x128x64_0_1_0_0),
  unary main_arg1 main_v36 (extractStridedSlice S1x1x64 ![1, 0, 0] · slices_S3x3x64_S1x1x64_1_0_0),
  reshape main_v36 main_v37 (rfl : (.f32 : EltTy) = .f32) shapeCasts_S1x1x64_S64,
  unary main_v37 main_v38 (broadcastInDim S1x1x1x64 ![3] bcast_S64_S1x1x1x64_3),
  unary main_v38 main_v39 (broadcastInDim S2x128x128x64 ![0, 1, 2, 3] bcast_S1x1x1x64_S2x128x128x64_0_1_2_3),
  binary main_v35 main_v39 main_v40 mulf,
  binary main_v34 main_v40 main_v41 addf,
  unary main_v12 main_v42 (extractStridedSlice S2x128x128x64 ![0, 1, 1, 0] · slices_S2x130x130x64_S2x128x128x64_0_1_1_0),
  unary main_arg1 main_v43 (extractStridedSlice S1x1x64 ![1, 1, 0] · slices_S3x3x64_S1x1x64_1_1_0),
  reshape main_v43 main_v44 (rfl : (.f32 : EltTy) = .f32) shapeCasts_S1x1x64_S64,
  unary main_v44 main_v45 (broadcastInDim S1x1x1x64 ![3] bcast_S64_S1x1x1x64_3),
  unary main_v45 main_v46 (broadcastInDim S2x128x128x64 ![0, 1, 2, 3] bcast_S1x1x1x64_S2x128x128x64_0_1_2_3),
  binary main_v42 main_v46 main_v47 mulf,
  binary main_v41 main_v47 main_v48 addf,
  unary main_v12 main_v49 (extractStridedSlice S2x128x128x64 ![0, 1, 2, 0] · slices_S2x130x130x64_S2x128x128x64_0_1_2_0),
  unary main_arg1 main_v50 (extractStridedSlice S1x1x64 ![1, 2, 0] · slices_S3x3x64_S1x1x64_1_2_0),
  reshape main_v50 main_v51 (rfl : (.f32 : EltTy) = .f32) shapeCasts_S1x1x64_S64,
  unary main_v51 main_v52 (broadcastInDim S1x1x1x64 ![3] bcast_S64_S1x1x1x64_3),
  unary main_v52 main_v53 (broadcastInDim S2x128x128x64 ![0, 1, 2, 3] bcast_S1x1x1x64_S2x128x128x64_0_1_2_3),
  binary main_v49 main_v53 main_v54 mulf,
  binary main_v48 main_v54 main_v55 addf,
  unary main_v12 main_v56 (extractStridedSlice S2x128x128x64 ![0, 2, 0, 0] · slices_S2x130x130x64_S2x128x128x64_0_2_0_0),
  unary main_arg1 main_v57 (extractStridedSlice S1x1x64 ![2, 0, 0] · slices_S3x3x64_S1x1x64_2_0_0),
  reshape main_v57 main_v58 (rfl : (.f32 : EltTy) = .f32) shapeCasts_S1x1x64_S64,
  unary main_v58 main_v59 (broadcastInDim S1x1x1x64 ![3] bcast_S64_S1x1x1x64_3),
  unary main_v59 main_v60 (broadcastInDim S2x128x128x64 ![0, 1, 2, 3] bcast_S1x1x1x64_S2x128x128x64_0_1_2_3),
  binary main_v56 main_v60 main_v61 mulf,
  binary main_v55 main_v61 main_v62 addf,
  unary main_v12 main_v63 (extractStridedSlice S2x128x128x64 ![0, 2, 1, 0] · slices_S2x130x130x64_S2x128x128x64_0_2_1_0),
  unary main_arg1 main_v64 (extractStridedSlice S1x1x64 ![2, 1, 0] · slices_S3x3x64_S1x1x64_2_1_0),
  reshape main_v64 main_v65 (rfl : (.f32 : EltTy) = .f32) shapeCasts_S1x1x64_S64,
  unary main_v65 main_v66 (broadcastInDim S1x1x1x64 ![3] bcast_S64_S1x1x1x64_3),
  unary main_v66 main_v67 (broadcastInDim S2x128x128x64 ![0, 1, 2, 3] bcast_S1x1x1x64_S2x128x128x64_0_1_2_3),
  binary main_v63 main_v67 main_v68 mulf,
  binary main_v62 main_v68 main_v69 addf,
  unary main_v12 main_v70 (extractStridedSlice S2x128x128x64 ![0, 2, 2, 0] · slices_S2x130x130x64_S2x128x128x64_0_2_2_0),
  unary main_arg1 main_v71 (extractStridedSlice S1x1x64 ![2, 2, 0] · slices_S3x3x64_S1x1x64_2_2_0),
  reshape main_v71 main_v72 (rfl : (.f32 : EltTy) = .f32) shapeCasts_S1x1x64_S64,
  unary main_v72 main_v73 (broadcastInDim S1x1x1x64 ![3] bcast_S64_S1x1x1x64_3),
  unary main_v73 main_v74 (broadcastInDim S2x128x128x64 ![0, 1, 2, 3] bcast_S1x1x1x64_S2x128x128x64_0_1_2_3),
  binary main_v70 main_v74 main_v75 mulf,
  binary main_v69 main_v75 main_v76 addf]

/-- The gate, the product by the weight matrix and the residual. -/
abbrev tailOps : List (HloOp τ sig (Elt F)) := [
  unary main_v76 main_v77 Host.negf,
  unary main_v77 main_v78 Host.exp,
  nullary main_cst_4 (constant S_ .f32 0x3F800000#32),
  unary main_cst_4 main_v79 (broadcastInDim S2x128x128x64 ![] bcast_S_S2x128x128x64),
  binary main_v79 main_v78 main_v80 addf,
  binary main_v76 main_v80 main_v81 Host.divf,
  reshape main_v81 main_v82 (rfl : (.f32 : EltTy) = .f32) shapeCasts_S2x128x128x64_S32768x64,
  binary main_v82 main_arg2 main_v83 (fun l r => Host.dotGeneral dot_S32768x64_S64x64_S32768x64_1_0_0_1_n_n none l r),
  reshape main_v83 main_v84 (rfl : (.f32 : EltTy) = .f32) shapeCasts_S32768x64_S2x128x128x64,
  binary main_arg0 main_v84 main_v85 addf]

/-- The whole line. -/
abbrev line : List (HloOp τ sig (Elt F)) := statsOps ++ (normOps ++ (imageOps ++ (rowOps ++ (colOps ++ (chanOps ++ (tapOps ++ tailOps))))))

set_option maxHeartbeats 4000000 in
set_option maxRecDepth 100000 in
/-- The reference is that line. -/
theorem main_line (d : Dev nD) : main (F := F) d = seq line := rfl

end

end Cert.Plain
-- ==== Proof.RefValue.lean ====
/-
# The reference's run

The reference runs to the end, leaves its arguments as they were, and leaves its result at the plain
mathematics of the arguments: each stretch of its line is read once, at whatever the stretch before it left.
-/
module

public import proofs.«01_k».proof.Proof.RefLine
public import Idealize.ShloMosaic.Lib.Quiescent

@[expose] public section

set_option maxRecDepth 100000

namespace Cert.Plain

noncomputable section

open Cert.ReferenceIdeal Cert.ReferenceIdeal.Gen
open Idealize.ShloMosaic Idealize.ShloMosaic.StableHlo Idealize.SL.Sem

variable {F : FTy → Type} [FloatOps F]

/-- The arrays of floats of a shape. -/
abbrev Arr (F : FTy → Type) [FloatOps F] (s : Shape) : Type := (⟨s, .f32⟩ : BufTy).Contents (Elt F)

/-- The sum over the rows and columns. -/
def sumOf (x : Arr F S2x128x128x64) : Arr F S2x1x1x64 :=
  broadcastInDim S2x1x1x64 ![0, 3] bcast_S2x64_S2x1x1x64_0_3
    (Host.reduceAdd x (constant S_ .f32 0x00000000#32) reducesTo_S2x128x128x64_S2x64_d1_2 h_S_)

/-- One number per image and channel, repeated at every row and column. -/
def spread (v : Arr F S2x1x1x64) : Arr F S2x128x128x64 :=
  broadcastInDim S2x128x128x64 ![0, 1, 2, 3] bcast_S2x1x1x64_S2x128x128x64_0_1_2_3 v

/-- The mean over the rows and columns. -/
def meanOf (x : Arr F S2x128x128x64) : Arr F S2x1x1x64 :=
  Host.divf (sumOf x) (broadcastInDim S2x1x1x64 ![] bcast_S_S2x1x1x64 (constant S_ .f32 0x46800000#32))

/-- The count the variance divides by: the number of rows and columns, less nothing. -/
def countOf : Arr F S_ := subf (constant S_ .f32 0x46800000#32) (sitofp .f32 (constantI S_ 32 0#32))

/-- The variance over the rows and columns. -/
def varOf (x : Arr F S2x128x128x64) : Arr F S2x1x1x64 :=
  select (broadcastInDim S2x1x1x64 ![] bcast_S_S2x1x1x64 (cmpf .ogt (countOf (F := F)) (constant S_ .f32 0x00000000#32)))
    (Host.divf (sumOf (mulf (subf x (spread (meanOf x))) (subf x (spread (meanOf x)))))
      (broadcastInDim S2x1x1x64 ![] bcast_S_S2x1x1x64 countOf))
    (broadcastInDim S2x1x1x64 ![] bcast_S_S2x1x1x64 (id (constant S_ .f32 0x7FC00000#32)))

/-- The array less its mean, over the square root of its variance plus the small constant. -/
def normOf (x : Arr F S2x128x128x64) (mean var : Arr F S2x1x1x64) : Arr F S2x128x128x64 :=
  Host.divf (subf x (spread mean))
    (spread (Host.sqrt (addf var (broadcastInDim S2x1x1x64 ![] bcast_S_S2x1x1x64 (constant S_ .f32 0x3727C5AC#32)))))

theorem stats_mean (V : Valuation τ sig (Elt F)) :
    after statsOps V (Proc.devRef .tc main_v3) = meanOf (V (Proc.devRef .tc main_arg0)) := by
  after_reads_simp; rfl

theorem stats_var (V : Valuation τ sig (Elt F)) :
    after statsOps V (Proc.devRef .tc main_v4) = varOf (V (Proc.devRef .tc main_arg0)) := by
  after_reads_simp; rfl

theorem norm_read (V : Valuation τ sig (Elt F)) :
    after normOps V (Proc.devRef .tc main_v11)
      = normOf (V (Proc.devRef .tc main_arg0)) (V (Proc.devRef .tc main_v3)) (V (Proc.devRef .tc main_v4)) := by
  after_reads_simp; rfl

/-- The array with its first and last rows repeated once outside. -/
def padRows (h : Arr F S2x128x128x64) : Arr F S2x130x128x64 :=
  concatenate S2x130x128x64 1
    [⟨S2x1x128x64, shapeCast S2x1x128x64 (broadcastInDim S2x1x1x128x64 ![0, 1, 3, 4] bcast_S2x1x128x64_S2x1x1x128x64_0_1_3_4
        (extractStridedSlice S2x1x128x64 ![0, 0, 0, 0] h slices_S2x128x128x64_S2x1x128x64_0_0_0_0)) shapeCasts_S2x1x1x128x64_S2x1x128x64⟩,
     ⟨S2x128x128x64, h⟩,
     ⟨S2x1x128x64, shapeCast S2x1x128x64 (broadcastInDim S2x1x1x128x64 ![0, 1, 3, 4] bcast_S2x1x128x64_S2x1x1x128x64_0_1_3_4
        (extractStridedSlice S2x1x128x64 ![0, 127, 0, 0] h slices_S2x128x128x64_S2x1x128x64_0_127_0_0)) shapeCasts_S2x1x1x128x64_S2x1x128x64⟩]
    concatenates_S2x1x128x64_S2x128x128x64_S2x1x128x64_S2x130x128x64_d1

/-- The array with its first and last columns repeated once outside. -/
def padCols (h : Arr F S2x130x128x64) : Arr F S2x130x130x64 :=
  concatenate S2x130x130x64 2
    [⟨S2x130x1x64, shapeCast S2x130x1x64 (broadcastInDim S2x130x1x1x64 ![0, 1, 2, 4] bcast_S2x130x1x64_S2x130x1x1x64_0_1_2_4
        (extractStridedSlice S2x130x1x64 ![0, 0, 0, 0] h slices_S2x130x128x64_S2x130x1x64_0_0_0_0)) shapeCasts_S2x130x1x1x64_S2x130x1x64⟩,
     ⟨S2x130x128x64, h⟩,
     ⟨S2x130x1x64, shapeCast S2x130x1x64 (broadcastInDim S2x130x1x1x64 ![0, 1, 2, 4] bcast_S2x130x1x64_S2x130x1x1x64_0_1_2_4
        (extractStridedSlice S2x130x1x64 ![0, 0, 127, 0] h slices_S2x130x128x64_S2x130x1x64_0_0_127_0)) shapeCasts_S2x130x1x1x64_S2x130x1x64⟩]
    concatenates_S2x130x1x64_S2x130x128x64_S2x130x1x64_S2x130x130x64_d2

/-- The array with nothing added before or after its images. -/
def padImages (h : Arr F S2x128x128x64) : Arr F S2x128x128x64 :=
  concatenate S2x128x128x64 0
    [⟨S0x128x128x64, shapeCast S0x128x128x64 (broadcastInDim S1x0x128x128x64 ![0, 2, 3, 4] bcast_S1x128x128x64_S1x0x128x128x64_0_2_3_4
        (extractStridedSlice S1x128x128x64 ![0, 0, 0, 0] h slices_S2x128x128x64_S1x128x128x64_0_0_0_0)) shapeCasts_S1x0x128x128x64_S0x128x128x64⟩,
     ⟨S2x128x128x64, h⟩,
     ⟨S0x128x128x64, shapeCast S0x128x128x64 (broadcastInDim S1x0x128x128x64 ![0, 2, 3, 4] bcast_S1x128x128x64_S1x0x128x128x64_0_2_3_4
        (extractStridedSlice S1x128x128x64 ![1, 0, 0, 0] h slices_S2x128x128x64_S1x128x128x64_1_0_0_0)) shapeCasts_S1x0x128x128x64_S0x128x128x64⟩]
    concatenates_S0x128x128x64_S2x128x128x64_S0x128x128x64_S2x128x128x64_d0

/-- The array with nothing added before or after its channels. -/
def padChans (h : Arr F S2x130x130x64) : Arr F S2x130x130x64 :=
  concatenate S2x130x130x64 3
    [⟨S2x130x130x0, shapeCast S2x130x130x0 (broadcastInDim S2x130x130x1x0 ![0, 1, 2, 3] bcast_S2x130x130x1_S2x130x130x1x0_0_1_2_3
        (extractStridedSlice S2x130x130x1 ![0, 0, 0, 0] h slices_S2x130x130x64_S2x130x130x1_0_0_0_0)) shapeCasts_S2x130x130x1x0_S2x130x130x0⟩,
     ⟨S2x130x130x64, h⟩,
     ⟨S2x130x130x0, shapeCast S2x130x130x0 (broadcastInDim S2x130x130x1x0 ![0, 1, 2, 3] bcast_S2x130x130x1_S2x130x130x1x0_0_1_2_3
        (extractStridedSlice S2x130x130x1 ![0, 0, 0, 63] h slices_S2x130x130x64_S2x130x130x1_0_0_0_63)) shapeCasts_S2x130x130x1x0_S2x130x130x0⟩]
    concatenates_S2x130x130x0_S2x130x130x64_S2x130x130x0_S2x130x130x64_d3

theorem image_read (V : Valuation τ sig (Elt F)) :
    after imageOps V (Proc.devRef .tc main_call1_v6) = padImages (V (Proc.devRef .tc main_v11)) := by
  after_reads_simp
  rfl

theorem row_read (V : Valuation τ sig (Elt F)) :
    after rowOps V (Proc.devRef .tc main_call1_v13) = padRows (V (Proc.devRef .tc main_call1_v6)) := by
  after_reads_simp
  rfl

theorem col_read (V : Valuation τ sig (Elt F)) :
    after colOps V (Proc.devRef .tc main_call1_v20) = padCols (V (Proc.devRef .tc main_call1_v13)) := by
  after_reads_simp
  rfl

theorem chan_read (V : Valuation τ sig (Elt F)) :
    after chanOps V (Proc.devRef .tc main_v12) = padChans (V (Proc.devRef .tc main_call1_v20)) := by
  after_reads_simp
  rfl

/-- One row of the kernel, repeated at every image, row and column. -/
def scaleOf (k : Arr F S3x3x64) (a b : ℕ) (hk : S3x3x64.Slices ![a, b, 0] S1x1x64) : Arr F S2x128x128x64 :=
  broadcastInDim S2x128x128x64 ![0, 1, 2, 3] bcast_S1x1x1x64_S2x128x128x64_0_1_2_3
    (broadcastInDim S1x1x1x64 ![3] bcast_S64_S1x1x1x64_3
      (shapeCast S64 (extractStridedSlice S1x1x64 ![a, b, 0] k hk) shapeCasts_S1x1x64_S64))

/-- One tap: the padded array shifted by `a` rows and `b` columns, scaled, added on. -/
def tapped (p : Arr F S2x130x130x64) (k : Arr F S3x3x64) (a b : ℕ)
    (hp : S2x130x130x64.Slices ![0, a, b, 0] S2x128x128x64) (hk : S3x3x64.Slices ![a, b, 0] S1x1x64)
    (acc : Arr F S2x128x128x64) : Arr F S2x128x128x64 :=
  addf acc (mulf (extractStridedSlice S2x128x128x64 ![0, a, b, 0] p hp) (scaleOf k a b hk))

/-- The nine taps, from zero. -/
def convOf (p : Arr F S2x130x130x64) (k : Arr F S3x3x64) : Arr F S2x128x128x64 :=
  tapped p k 2 2 slices_S2x130x130x64_S2x128x128x64_0_2_2_0 slices_S3x3x64_S1x1x64_2_2_0 <|
  tapped p k 2 1 slices_S2x130x130x64_S2x128x128x64_0_2_1_0 slices_S3x3x64_S1x1x64_2_1_0 <|
  tapped p k 2 0 slices_S2x130x130x64_S2x128x128x64_0_2_0_0 slices_S3x3x64_S1x1x64_2_0_0 <|
  tapped p k 1 2 slices_S2x130x130x64_S2x128x128x64_0_1_2_0 slices_S3x3x64_S1x1x64_1_2_0 <|
  tapped p k 1 1 slices_S2x130x130x64_S2x128x128x64_0_1_1_0 slices_S3x3x64_S1x1x64_1_1_0 <|
  tapped p k 1 0 slices_S2x130x130x64_S2x128x128x64_0_1_0_0 slices_S3x3x64_S1x1x64_1_0_0 <|
  tapped p k 0 2 slices_S2x130x130x64_S2x128x128x64_0_0_2_0 slices_S3x3x64_S1x1x64_0_2_0 <|
  tapped p k 0 1 slices_S2x130x130x64_S2x128x128x64_0_0_1_0 slices_S3x3x64_S1x1x64_0_1_0 <|
  tapped p k 0 0 slices_S2x130x130x64_S2x128x128x64_0_0_0_0 slices_S3x3x64_S1x1x64_0_0_0 <|
  broadcastInDim S2x128x128x64 ![] bcast_S_S2x128x128x64 (constant S_ .f32 0x00000000#32)

set_option maxHeartbeats 1000000 in
theorem tap_read (V : Valuation τ sig (Elt F)) :
    after tapOps V (Proc.devRef .tc main_v76) = convOf (V (Proc.devRef .tc main_v12)) (V (Proc.devRef .tc main_arg1)) := by
  after_reads_simp
  rfl

/-- The gate: each number over one plus the exponential of its negative. -/
def gateOf (v : Arr F S2x128x128x64) : Arr F S2x128x128x64 :=
  Host.divf v (addf (broadcastInDim S2x128x128x64 ![] bcast_S_S2x128x128x64 (constant S_ .f32 0x3F800000#32)) (Host.exp (Host.negf v)))

/-- The product by the weights, added to the array. -/
def mixOf (x a : Arr F S2x128x128x64) (w : Arr F S64x64) : Arr F S2x128x128x64 :=
  addf x (shapeCast S2x128x128x64
    (Host.dotGeneral dot_S32768x64_S64x64_S32768x64_1_0_0_1_n_n none
      (shapeCast S32768x64 a shapeCasts_S2x128x128x64_S32768x64) w) shapeCasts_S32768x64_S2x128x128x64)

theorem tail_read (V : Valuation τ sig (Elt F)) :
    after tailOps V (Proc.devRef .tc main_v85)
      = mixOf (V (Proc.devRef .tc main_arg0)) (gateOf (V (Proc.devRef .tc main_v76))) (V (Proc.devRef .tc main_arg2)) := by
  after_reads_simp
  rfl

/-- The reference's result, from its three arguments. -/
def refOf (x : Arr F S2x128x128x64) (k : Arr F S3x3x64) (w : Arr F S64x64) : Arr F S2x128x128x64 :=
  mixOf x (gateOf (convOf (padChans (padCols (padRows (padImages (normOf x (meanOf x) (varOf x)))))) k)) w

/-- The contents `V'` hold the arguments as `V` does. -/
def Keeps (V V' : Valuation τ sig (Elt F)) : Prop :=
  V' (Proc.devRef .tc main_arg0) = V (Proc.devRef .tc main_arg0)
    ∧ V' (Proc.devRef .tc main_arg1) = V (Proc.devRef .tc main_arg1)
    ∧ V' (Proc.devRef .tc main_arg2) = V (Proc.devRef .tc main_arg2)

theorem Keeps.trans {V V' V'' : Valuation τ sig (Elt F)} (h : Keeps V V') (h' : Keeps V' V'') : Keeps V V'' :=
  ⟨h'.1.trans h.1, h'.2.1.trans h.2.1, h'.2.2.trans h.2.2⟩

theorem stats_keeps (V : Valuation τ sig (Elt F)) : Keeps V (after statsOps V) := by
  refine ⟨?_, ?_, ?_⟩ <;> after_reads_simp

theorem norm_keeps (V : Valuation τ sig (Elt F)) : Keeps V (after normOps V) := by
  refine ⟨?_, ?_, ?_⟩ <;> after_reads_simp

theorem image_keeps (V : Valuation τ sig (Elt F)) : Keeps V (after imageOps V) := by
  refine ⟨?_, ?_, ?_⟩ <;> after_reads_simp

theorem row_keeps (V : Valuation τ sig (Elt F)) : Keeps V (after rowOps V) := by
  refine ⟨?_, ?_, ?_⟩ <;> after_reads_simp

theorem col_keeps (V : Valuation τ sig (Elt F)) : Keeps V (after colOps V) := by
  refine ⟨?_, ?_, ?_⟩ <;> after_reads_simp

theorem chan_keeps (V : Valuation τ sig (Elt F)) : Keeps V (after chanOps V) := by
  refine ⟨?_, ?_, ?_⟩ <;> after_reads_simp

theorem tap_keeps (V : Valuation τ sig (Elt F)) : Keeps V (after tapOps V) := by
  refine ⟨?_, ?_, ?_⟩ <;> after_reads_simp

theorem tail_keeps (V : Valuation τ sig (Elt F)) : Keeps V (after tailOps V) := by
  refine ⟨?_, ?_, ?_⟩ <;> after_reads_simp

/-- Two stretches in a row. -/
theorem after_both (l₁ l₂ : List (HloOp τ sig (Elt F))) (V : Valuation τ sig (Elt F)) :
    after (l₁ ++ l₂) V = after l₂ (after l₁ V) := by
  induction l₁ generalizing V with
  | nil => rfl
  | cons op l ih => exact ih _

/-- The whole line keeps the arguments and leaves the result. -/
theorem line_read (V : Valuation τ sig (Elt F)) :
    Keeps V (after line V)
      ∧ after line V (Proc.devRef .tc main_v85)
        = refOf (V (Proc.devRef .tc main_arg0)) (V (Proc.devRef .tc main_arg1)) (V (Proc.devRef .tc main_arg2)) := by
  have k1 := stats_keeps V
  have k2 := k1.trans (norm_keeps _)
  have k3 := k2.trans (image_keeps _)
  have k4 := k3.trans (row_keeps _)
  have k5 := k4.trans (col_keeps _)
  have k6 := k5.trans (chan_keeps _)
  have k7 := k6.trans (tap_keeps _)
  have k8 := k7.trans (tail_keeps _)
  unfold line
  simp only [after_both]
  refine ⟨k8, ?_⟩
  rw [tail_read, tap_read, chan_read, col_read, row_read, image_read, norm_read, stats_mean, stats_var,
    k7.1, k7.2.2, k6.2.1, k1.1]
  rfl

/-- Every operation's buffers are the device's own. -/
theorem line_bufs : (line (F := F)).Forall fun op => op.bufs ⊆ tcRefs τ sig := by
  simp

/-- Every operation determines its result. -/
theorem line_fresh : ∀ op ∈ line (F := F), op.fresh = ∅ := by
  intro _ h
  repeat (cases h with | head => rfl | tail _ h => ?_)
  exact nomatch h

/-- The reference's run. -/
theorem run_plain (m : (x : Loc nD τ sig) → Buf (Elt F) x) (ρ : Dev nD → PrngReg) :
    θ_run defs (onTc (main (F := F))) ⟨m, fun _ => 0, ρ⟩ (fun r =>
      (∀ c : Dev nD,
        r.2.mem ((c.tc : Thread nD τ).loc main_v85)
            = refOf (m ((c.tc : Thread nD τ).loc main_arg0)) (m ((c.tc : Thread nD τ).loc main_arg1)) (m ((c.tc : Thread nD τ).loc main_arg2))
        ∧ r.2.mem ((c.tc : Thread nD τ).loc main_arg0) = m ((c.tc : Thread nD τ).loc main_arg0)
        ∧ r.2.mem ((c.tc : Thread nD τ).loc main_arg1) = m ((c.tc : Thread nD τ).loc main_arg1)
        ∧ r.2.mem ((c.tc : Thread nD τ).loc main_arg2) = m ((c.tc : Thread nD τ).loc main_arg2))
      ∧ r.2.sem = fun _ => 0) := by
  refine θ_run_mono (run_hlo defs main (ops := line) (fun d => main_line d) (by decide) (by decide) line_bufs line_fresh m ρ) ?_
  intro r h
  refine ⟨fun c => ?_, sem_eq_zero_of_no_sems (by decide) _⟩
  have hl := line_read (F := F) (launchContents m c)
  exact ⟨(h c main_v85).trans hl.2, (h c main_arg0).trans hl.1.1, (h c main_arg1).trans hl.1.2.1,
    (h c main_arg2).trans hl.1.2.2⟩

end

end Cert.Plain
-- ==== Proof.Frames.lean ====
/-
# The kernel's frames

The device program reads the same over machine floats and over the extended reals, so one run gives both.
-/
module

public import proofs.«01_k».proof.Defs
public import proofs.«01_k».proof.Proof.Run
public import proofs.«01_k».proof.Proof.Gen.Kernel
public import proofs.«01_k».proof.Proof.Gen.KernelIdeal
public import proofs.«01_k».proof.Proof.RefValue

@[expose] public section

noncomputable section

namespace Cert.Exchange

open Idealize.ShloMosaic Idealize.SL.Sem

/-- Over any float values the kernel ends, its arguments unchanged and its counters at zero. -/
theorem run_frame {F : FTy → Type} [FloatOps F] (m : (x : Loc KernelIdeal.nD KernelIdeal.τ KernelIdeal.sig) → Buf (Elt F) x)
    (ρ : Dev KernelIdeal.nD → PrngReg) :
    θ_run (KernelIdeal.defs (F := F)) (onTc (τ := KernelIdeal.τ) (KernelIdeal.main (F := F))) (s₀ m ρ) (fun r =>
      (∀ c : Dev KernelIdeal.nD,
        r.2.mem ((c.tc : Thread KernelIdeal.nD KernelIdeal.τ).loc KernelIdeal.main_arg0) = m ((c.tc : Thread KernelIdeal.nD KernelIdeal.τ).loc KernelIdeal.main_arg0)
        ∧ r.2.mem ((c.tc : Thread KernelIdeal.nD KernelIdeal.τ).loc KernelIdeal.main_arg1) = m ((c.tc : Thread KernelIdeal.nD KernelIdeal.τ).loc KernelIdeal.main_arg1)
        ∧ r.2.mem ((c.tc : Thread KernelIdeal.nD KernelIdeal.τ).loc KernelIdeal.main_arg2) = m ((c.tc : Thread KernelIdeal.nD KernelIdeal.τ).loc KernelIdeal.main_arg2))
      ∧ r.2.sem = fun _ => 0) :=
  (θ_run KernelIdeal.defs _ _).mono (fun _ h => ⟨fun c => (h.1 c).2, h.2⟩) (run_main m ρ)

/-- The two programs have the same bodies -/
theorem bodies_eq {F : FTy → Type} [FloatOps F] : Kernel.defs₀ (F := F) = KernelIdeal.defs₀ (F := F) := by
  unfold Kernel.defs₀ KernelIdeal.defs₀
  refine congrArg Defs.onTc (funext fun l => funext fun p => ?_)
  match l, p with
  | ⟨0, _⟩, (t, s) => rfl
  | ⟨n + 1, h⟩, _ => exact absurd h (Nat.not_lt.2 (Nat.le_add_left _ _))

/-- and the same labels. -/
theorem defs_eq {F : FTy → Type} [FloatOps F] : Kernel.defs (F := F) = KernelIdeal.defs (F := F) := by
  unfold Kernel.defs KernelIdeal.defs
  rw [bodies_eq]
  rfl

/-- So it does over machine floats; -/
theorem frame_kernel : Cert.quiescent_Kernel := fun m ρ _ => by
  rw [defs_eq]
  exact run_frame (F := Bits) m ρ

/-- over the extended reals, -/
theorem frame_ideal : Cert.quiescent_KernelIdeal := fun m ρ _ => run_frame (F := Ideal) m ρ

/-- and so does the reference. -/
theorem frame_plain : Cert.quiescent_ReferenceIdeal := fun m ρ _ =>
  θ_run_mono (Cert.Plain.run_plain (F := Ideal) m ρ) fun _ h => ⟨fun c => (h.1 c).2, h.2⟩

end Cert.Exchange

end
-- ==== Proof.Numbers.lean ====
/-
# The equation of one number

One output channel before the gate: the reference normalises the nine numbers under the window and takes
their weighted sum; the kernel takes the weighted sum of the nine numbers as they are and corrects it by
the statistics. For finite numbers the two agree.
-/
module

public import Idealize.ShloMosaic.Lib.Pointwise
public import Idealize.ShloMosaic.Lib.IdealHost

@[expose] public section

namespace Cert.Numbers

noncomputable section

open Idealize.ShloMosaic
open scoped BigOperators

/-! ## The constants -/

/-- The number of rows and columns an image has. -/
abbrev count : EReal := Ideal.ofBits .f32 0x46800000#32
/-- The small constant added to the variance. -/
abbrev small : EReal := Ideal.ofBits .f32 0x3727C5AC#32

theorem count_eq : count = ((16384 : ℝ) : EReal) := by
  simp [count, Ideal.ofBits, Ideal.ieee, -EReal.coe_mul]; norm_num

/-- The small constant is a positive real. -/
theorem small_pos : ∃ e : ℝ, 0 < e ∧ small = (e : EReal) := by
  simp [small, Ideal.ofBits, Ideal.ieee, -EReal.coe_mul]

/-- The count the reference's variance divides by is the same count, less nothing. -/
theorem count_less : count - (FloatOps.sitofp (F := Ideal) .f32 0#32 : EReal) = count := by
  have h : (FloatOps.sitofp (F := Ideal) .f32 0#32 : EReal) = 0 := by
    show (((0#32 : BitVec 32).toInt : ℝ) : EReal) = 0
    simp
  rw [h]; exact sub_zero _

theorem count_pos : 0 < count := by rw [count_eq]; exact_mod_cast (by norm_num : (0 : ℝ) < 16384)

/-! ## Sums and quotients of reals -/

/-- A sum of reals, taken among the extended reals. -/
theorem coe_sum {ι : Type} [Fintype ι] (f : ι → ℝ) : ∑ i, (f i : EReal) = ((∑ i, f i : ℝ) : EReal) := by
  classical
  refine Finset.induction_on (Finset.univ : Finset ι) (by simp) fun i s hi ih => ?_
  rw [Finset.sum_insert hi, Finset.sum_insert hi, ih, EReal.coe_add]

/-- A quotient of reals whose divisor is not zero. -/
theorem coe_div (a : ℝ) {b : ℝ} (h : b ≠ 0) : Ideal.div (a : EReal) (b : EReal) = ((a / b : ℝ) : EReal) := by
  rw [Ideal.div_coe h, ← EReal.coe_mul, mul_one_div]

/-! ## Nine taps -/

/-- Place `n` of a padded row or column, among the 128 places inside: the ends are repeated once outside. -/
def edge (n : ℕ) : Fin 128 := ⟨min (n - 1) 127, by omega⟩

/-- Outside the first place take the first, outside the last the last, and inside the place itself. -/
theorem edge_pick {α : Type} (f : Fin 128 → α) (n : ℕ) :
    (if _h : n < 1 then f 0 else if h : n - 1 < 128 then f ⟨n - 1, h⟩ else f 127) = f (edge n) := by
  by_cases h0 : n < 1
  · rw [dif_pos h0]; exact congrArg f (Fin.ext (show 0 = min (n - 1) 127 by omega))
  · rw [dif_neg h0]
    by_cases h1 : n - 1 < 128
    · rw [dif_pos h1]; exact congrArg f (Fin.ext (show n - 1 = min (n - 1) 127 by omega))
    · rw [dif_neg h1]; exact congrArg f (Fin.ext (show 127 = min (n - 1) 127 by omega))

/-- What a channel of the place (`r`, `c`) sees: the nine places around it, the border repeated. -/
abbrev around (r c : ℕ) (a d : Fin 3) : Fin 128 × Fin 128 := (edge (a.val + r), edge (d.val + c))

/-- Nine numbers, each scaled by its weight, added up in order. -/
def tapSum (u k : Fin 3 → Fin 3 → EReal) : EReal :=
  u 0 0 * k 0 0 + u 0 1 * k 0 1 + u 0 2 * k 0 2 + u 1 0 * k 1 0 + u 1 1 * k 1 1 + u 1 2 * k 1 2
    + u 2 0 * k 2 0 + u 2 1 * k 2 1 + u 2 2 * k 2 2

/-- Of reals it is the sum of the nine products. -/
theorem tapSum_coe (u k : Fin 3 → Fin 3 → ℝ) :
    tapSum (fun a d => (u a d : EReal)) (fun a d => (k a d : EReal)) = ((∑ q : Fin 3 × Fin 3, u q.1 q.2 * k q.1 q.2 : ℝ) : EReal) := by
  simp only [tapSum, ← EReal.coe_mul, ← EReal.coe_add, Fintype.sum_prod_type, Fin.sum_univ_three, EReal.coe_eq_coe_iff]
  ring

/-! ## The variance -/

section Variance

variable {ι : Type} [Fintype ι] (x : ι → ℝ)

/-- The mean of the squares less the square of the mean is the mean of the squared deviations. -/
theorem variance_eq (n : ℝ) (hn : (Fintype.card ι : ℝ) = n) (h0 : n ≠ 0) :
    (∑ p, x p * x p) / n - (∑ p, x p) / n * ((∑ p, x p) / n)
      = (∑ p, (x p - (∑ p, x p) / n) * (x p - (∑ p, x p) / n)) / n := by
  set S := ∑ p, x p with hS
  have h : ∑ p, (x p - S / n) * (x p - S / n) = (∑ p, x p * x p) - 2 * (S / n) * S + n * (S / n * (S / n)) := by
    have e (p) : (x p - S / n) * (x p - S / n) = x p * x p - 2 * (S / n) * x p + S / n * (S / n) := by ring
    rw [Finset.sum_congr rfl fun p _ => e p, Finset.sum_add_distrib, Finset.sum_sub_distrib, ← Finset.mul_sum, ← hS,
      Finset.sum_const, Finset.card_univ, nsmul_eq_mul, hn]
  rw [h]
  field_simp
  ring

end Variance

/-! ## The two ways to a channel -/

/-- The kernel's way: the weighted sum of the numbers as they are, scaled, less the share of the mean. -/
def corrected (raw sum sq ksum : EReal) : EReal :=
  raw * Ideal.rsqrt (Ideal.div sq count - Ideal.div sum count * Ideal.div sum count + small)
    - Ideal.div sum count * ksum * Ideal.rsqrt (Ideal.div sq count - Ideal.div sum count * Ideal.div sum count + small)

/-- The reference's way: each number less the mean, over the square root of the variance. -/
def normal (v mean var : EReal) : EReal := Ideal.div (v - mean) (Ideal.sqrt (var + small))

/-- For reals the two ways agree. -/
theorem corrected_eq (x : Fin 128 × Fin 128 → ℝ) (k : Fin 3 → Fin 3 → ℝ) (e : Fin 3 → Fin 3 → Fin 128 × Fin 128) :
    corrected (tapSum (fun a d => (x (e a d) : EReal)) fun a d => (k a d : EReal)) (∑ p, (x p : EReal)) (∑ p, (x p : EReal) * (x p : EReal))
        (∑ q : Fin 3 × Fin 3, (k q.1 q.2 : EReal))
      = tapSum (fun a d => normal (x (e a d)) (Ideal.div (∑ p, (x p : EReal)) count)
          (Ideal.div (∑ p, ((x p : EReal) - Ideal.div (∑ p, (x p : EReal)) count) * ((x p : EReal) - Ideal.div (∑ p, (x p : EReal)) count)) count))
        fun a d => (k a d : EReal) := by
  obtain ⟨s, hs, es⟩ := small_pos
  have hn : (16384 : ℝ) ≠ 0 := by norm_num
  have hcard : (Fintype.card (Fin 128 × Fin 128) : ℝ) = 16384 := by norm_num
  unfold corrected normal
  rw [es, count_eq]
  simp only [← EReal.coe_mul, coe_sum, coe_div _ hn, ← EReal.coe_sub, ← EReal.coe_add, tapSum_coe]
  rw [variance_eq x 16384 hcard hn]
  set m := (∑ p, x p) / 16384
  set v := (∑ p, (x p - m) * (x p - m)) / 16384 with hv
  have hv0 : 0 ≤ v := div_nonneg (Finset.sum_nonneg fun p _ => mul_self_nonneg _) (by norm_num)
  have hp : 0 < v + s := by linarith
  have hr : Real.sqrt (v + s) ≠ 0 := (Real.sqrt_pos.mpr hp).ne'
  rw [Ideal.rsqrt_coe, if_neg (not_lt.mpr hp.le), if_neg hp.ne', Ideal.sqrt_coe, if_neg (not_lt.mpr hp.le)]
  simp only [← EReal.coe_mul, coe_div _ hr, ← EReal.coe_sub, tapSum_coe, EReal.coe_eq_coe_iff]
  rw [Finset.mul_sum, Finset.sum_mul, Finset.sum_mul, ← Finset.sum_sub_distrib]
  refine Finset.sum_congr rfl fun q _ => ?_
  field_simp

/-! ## The gate -/

/-- The gate as the kernel takes it, a product with the logistic function, is the quotient the reference takes. -/
theorem gate_eq (v : EReal) : v * Ideal.logistic v = Ideal.div v (1 + Ideal.exp (-v)) := by
  have h0 : (0 : EReal) ≤ Ideal.exp (-v) := by
    generalize -v = u
    induction u using EReal.rec with
    | bot => exact le_refl _
    | top => exact le_top
    | coe r => rw [Ideal.exp_coe]; exact_mod_cast (Real.exp_pos _).le
  have h1 : (1 : EReal) + Ideal.exp (-v) ≠ 0 := by
    have h : (1 : EReal) ≤ 1 + Ideal.exp (-v) := le_add_of_nonneg_right h0
    intro e; rw [e] at h; exact absurd h (by simp)
  exact Ideal.mul_one_div h1

end

end Cert.Numbers
-- ==== Proof.Sums.lean ====
/-
# Sums over two axes

A reduction by sum along two axes of an array, read at an index, and a sum over an image's rows and columns
as the sum of its four quarters'.
-/
module

public import Idealize.ShloMosaic.Lib.Pointwise

@[expose] public section

namespace Cert.Numbers

noncomputable section

open Idealize.ShloMosaic
open scoped BigOperators

/-- The indices whose first and last coordinates are `b` and `c`, summed over: the middle coordinates run. -/
theorem sum_middle {n0 n1 n2 n3 : ℕ} (v : (⟨4, ![n0, n1, n2, n3]⟩ : Shape).Idx → EReal) (b : Fin n0) (c : Fin n3)
    (P : (⟨4, ![n0, n1, n2, n3]⟩ : Shape).Idx → Prop) [DecidablePred P] (hP : ∀ i, P i ↔ (i 0).val = b.val ∧ (i 3).val = c.val) :
    ∑ i ∈ Finset.univ.filter P, v i = ∑ q : Fin n1 × Fin n2, v (ix4 b q.1 q.2 c) := by
  refine Finset.sum_filter_eq_sum_of_fiber P (fun q : Fin n1 × Fin n2 => ix4 b q.1 q.2 c) ?_ ?_ v
  · intro q q' e
    exact Prod.ext (congrFun e 1) (congrFun e 2)
  · intro i
    rw [hP]
    refine ⟨fun h => ⟨(i 1, i 2), ?_⟩, ?_⟩
    · funext a; fin_cases a
      · exact Fin.ext h.1.symm
      · rfl
      · rfl
      · exact Fin.ext h.2.symm
    · rintro ⟨q, rfl⟩; exact ⟨rfl, rfl⟩

/-- The indices whose last coordinate is `c`, summed over: the first two run. -/
theorem sum_front {n1 n2 n3 : ℕ} (v : (⟨3, ![n1, n2, n3]⟩ : Shape).Idx → EReal) (c : Fin n3)
    (P : (⟨3, ![n1, n2, n3]⟩ : Shape).Idx → Prop) [DecidablePred P] (hP : ∀ i, P i ↔ (i 2).val = c.val) :
    ∑ i ∈ Finset.univ.filter P, v i = ∑ q : Fin n1 × Fin n2, v (ix3 q.1 q.2 c) := by
  refine Finset.sum_filter_eq_sum_of_fiber P (fun q : Fin n1 × Fin n2 => ix3 q.1 q.2 c) ?_ ?_ v
  · intro q q' e
    exact Prod.ext (congrFun e 0) (congrFun e 1)
  · intro i
    rw [hP]
    refine ⟨fun h => ⟨(i 0, i 1), ?_⟩, ?_⟩
    · funext a; fin_cases a
      · rfl
      · rfl
      · exact Fin.ext h.symm
    · rintro ⟨q, rfl⟩; rfl

/-- A kernel's sum along the middle axes. -/
theorem reduceAdd_middle {n0 n1 n2 n3 : ℕ} (h : (⟨4, ![n0, n1, n2, n3]⟩ : Shape).Reduces [1, 2] ⟨2, ![n0, n3]⟩)
    (v : (⟨4, ![n0, n1, n2, n3]⟩ : Shape).Idx → EReal) (b : Fin n0) (c : Fin n3) :
    Ideal.reduceAdd h v (ix2 b c) = ∑ q : Fin n1 × Fin n2, v (ix4 b q.1 q.2 c) := by
  unfold Ideal.reduceAdd
  refine sum_middle v b c _ fun i => ?_
  rw [funext_iff, Fin.forall_fin_two, Fin.ext_iff, Fin.ext_iff]
  exact Iff.rfl

/-- The host's sum along the middle axes. -/
theorem hostReduceAdd_middle {n0 n1 n2 n3 : ℕ} (h : (⟨4, ![n0, n1, n2, n3]⟩ : Shape).ReducesTo [1, 2] ⟨2, ![n0, n3]⟩)
    (v : (⟨4, ![n0, n1, n2, n3]⟩ : Shape).Idx → EReal) (s : EReal) (b : Fin n0) (c : Fin n3) :
    Ideal.hostReduceAdd h v s (ix2 b c) = s + ∑ q : Fin n1 × Fin n2, v (ix4 b q.1 q.2 c) := by
  unfold Ideal.hostReduceAdd
  refine congrArg (s + ·) (sum_middle v b c _ fun i => ?_)
  rw [funext_iff, Fin.forall_fin_two, Fin.ext_iff, Fin.ext_iff]
  exact Iff.rfl

/-- A kernel's sum along the first two of three axes. -/
theorem reduceAdd_front {n1 n2 n3 : ℕ} (h : (⟨3, ![n1, n2, n3]⟩ : Shape).Reduces [0, 1] ⟨1, ![n3]⟩)
    (v : (⟨3, ![n1, n2, n3]⟩ : Shape).Idx → EReal) (c : Fin n3) :
    Ideal.reduceAdd h v (ix1 c) = ∑ q : Fin n1 × Fin n2, v (ix3 q.1 q.2 c) := by
  unfold Ideal.reduceAdd
  refine sum_front v c _ fun i => ?_
  rw [funext_iff, Fin.forall_fin_one, Fin.ext_iff]
  exact Iff.rfl

/-- Row `i` of the half numbered `a`. -/
abbrev half (a : ℕ) (ha : a < 2) (i : Fin 64) : Fin 128 := ⟨64 * a + i.val, by omega⟩

/-- A sum over 128 places is the sum over the first half and the sum over the second. -/
theorem sum_halves (f : Fin 128 → EReal) : ∑ i, f i = (∑ i, f (half 0 (by decide) i)) + ∑ i, f (half 1 (by decide) i) := by
  rw [show (∑ i, f i) = ∑ i : Fin (64 + 64), f i from rfl, Fin.sum_univ_add]
  congr 1

/-- The sum over one quarter of an image. -/
def quarter (f : Fin 128 × Fin 128 → EReal) (a d : ℕ) (ha : a < 2) (hd : d < 2) : EReal :=
  ∑ q : Fin 64 × Fin 64, f (half a ha q.1, half d hd q.2)

/-- The sum over an image is the sum over its four quarters. -/
theorem sum_quarters (f : Fin 128 × Fin 128 → EReal) :
    ∑ q, f q = (quarter f 0 0 (by decide) (by decide) + quarter f 0 1 (by decide) (by decide))
      + (quarter f 1 0 (by decide) (by decide) + quarter f 1 1 (by decide) (by decide)) := by
  simp only [quarter, Fintype.sum_prod_type]
  rw [sum_halves]
  simp only [sum_halves (fun y => f (_, y)), Finset.sum_add_distrib]

end

end Cert.Numbers
-- ==== Proof.Whole.lean ====
/-
# The blocks and the whole array

Each device holds a quarter of every image. From the devices' quarters, this module reads what the exchange
gives a device: its quarter with a border of one from its neighbours, or repeated where the image ends, and
the statistics of whole images.
-/
module

public import proofs.«01_k».proof.Proof.Contents
public import proofs.«01_k».proof.Proof.Numbers
public import proofs.«01_k».proof.Proof.Sums

@[expose] public section

set_option maxRecDepth 100000

namespace Cert.Exchange

noncomputable section

open Cert.KernelIdeal Cert.KernelIdeal.Gen Cert.Numbers
open Idealize.ShloMosaic
open Idealize.ShloMosaic.TcCoe
open scoped BigOperators

/-- The images as a whole. -/
abbrev Whole : Type := (⟨4, ![2, 128, 128, 64]⟩ : Shape).Idx → EReal

/-- A device's coordinates on the mesh: along the rows, -/
def px (c : Dev nD) : ℕ := c.val / 2
/-- and along the columns. -/
def py (c : Dev nD) : ℕ := c.val % 2

theorem px_lt (c : Dev nD) : px c < 2 := by have h : c.val < 4 := c.isLt; unfold px; omega
theorem py_lt (c : Dev nD) : py c < 2 := by unfold py; omega

theorem pxW_eq : ∀ c : Dev nD, pxW c = BitVec.ofNat 32 (px c) := by decide
theorem pyW_eq : ∀ c : Dev nD, pyW c = BitVec.ofNat 32 (py c) := by decide

theorem px_row : ∀ c : Dev nD, px (peer 3 c) = 1 - px c := by decide
theorem py_row : ∀ c : Dev nD, py (peer 3 c) = py c := by decide
theorem px_col : ∀ c : Dev nD, px (peer 4 c) = px c := by decide
theorem py_col : ∀ c : Dev nD, py (peer 4 c) = 1 - py c := by decide
theorem px_cor : ∀ c : Dev nD, px (peer 5 c) = 1 - px c := by decide
theorem py_cor : ∀ c : Dev nD, py (peer 5 c) = 1 - py c := by decide

/-- Each device holds its quarter of the images. -/
def Quarters (X : Dev nD → Vec Ideal S2x64x64x64 .f32) (x : Whole) : Prop :=
  ∀ (c : Dev nD) (b : Fin 2) (i j ch : Fin 64), X c (ix4 b i j ch) = x (ix4 b (half (px c) (px_lt c) i) (half (py c) (py_lt c) j) ch)

/-- Two places of the images that agree in row and column. -/
theorem at_eq (x : Whole) (b : Fin 2) (ch : Fin 64) {r r' s s' : Fin 128} (hr : r.val = r'.val) (hs : s.val = s'.val) :
    x (ix4 b r s ch) = x (ix4 b r' s' ch) := by
  rw [Fin.ext hr, Fin.ext hs]

/-- The kernel's choice by a mesh coordinate being 0, -/
theorem pick_zero {α : Type} (p : ℕ) (hp : p < 2) (a b : α) :
    Scalar.select (Scalar.cmpi .eq (BitVec.ofNat 32 p) 0#32) a b = if p = 0 then a else b := by
  interval_cases p <;> rfl
/-- and being 1. -/
theorem pick_one {α : Type} (p : ℕ) (hp : p < 2) (a b : α) :
    Scalar.select (Scalar.cmpi .eq (BitVec.ofNat 32 p) 1#32) a b = if p = 0 then b else a := by
  interval_cases p <;> rfl

/-- The kernel's choices by a device's own coordinates. -/
theorem pick_px {α : Type} (c : Dev nD) (a b : α) : Scalar.select (Scalar.cmpi .eq (pxW c) 0#32) a b = if px c = 0 then a else b := by
  rw [pxW_eq]; exact pick_zero _ (px_lt c) a b
theorem pick_py {α : Type} (c : Dev nD) (a b : α) : Scalar.select (Scalar.cmpi .eq (pyW c) 0#32) a b = if py c = 0 then a else b := by
  rw [pyW_eq]; exact pick_zero _ (py_lt c) a b
theorem pick_px_one {α : Type} (c : Dev nD) (a b : α) : Scalar.select (Scalar.cmpi .eq (pxW c) 1#32) a b = if px c = 0 then b else a := by
  rw [pxW_eq]; exact pick_one _ (px_lt c) a b

/-- The row or column just beyond the half numbered `p`, inside the image. -/
def beyond (p : ℕ) : Fin 128 := ⟨64 - p, by omega⟩

variable {X : Dev nD → Vec Ideal S2x64x64x64 .f32} {x : Whole} (hX : Quarters X x) (c : Dev nD) (b : Fin 2) (ch : Fin 64)

include hX

/-! ## What arrives -/

/-- The received row is the row just beyond the device's quarter, -/
theorem row_at (j : Fin 64) : sent X 3 (peer 3 c) (ix3 b j ch) = x (ix4 b (beyond (px c)) (half (py c) (py_lt c) j) ch) := by
  have h := px_lt c
  have e := pxW_eq (peer 3 c)
  rw [px_row] at e
  show k0_pay4 (k0_pay3 (peer 3 c) (X (peer 3 c))) (ix3 b j ch) = _
  pointwise [k0_pay4, k0_pay3, k0_pay2]
  rw [show Scalar.remsi (Scalar.divsi (Dev.word (peer 3 c)) 2#32) 2#32 = BitVec.ofNat 32 (1 - px c) from e, pick_zero _ (by omega), hX, hX]
  split_ifs with h0
  · exact at_eq x b ch (by simp only [half, beyond, px_row]; show 64 * (1 - px c) + 63 = 64 - px c; omega) (by simp only [half, py_row])
  · exact at_eq x b ch (by simp only [half, beyond, px_row]; show 64 * (1 - px c) + 0 = 64 - px c; omega) (by simp only [half, py_row])

/-- the received column is the column just beyond it, -/
theorem col_at (i : Fin 64) : sent X 4 (peer 4 c) (ix3 b i ch) = x (ix4 b (half (px c) (px_lt c) i) (beyond (py c)) ch) := by
  have h := py_lt c
  have e := pyW_eq (peer 4 c)
  rw [py_col] at e
  show k0_pay5 (pyW (peer 4 c)) (k0_pay2 (X (peer 4 c))) (ix3 b i ch) = _
  rw [e]
  pointwise [k0_pay5, k0_pay2]
  rw [pick_zero _ (by omega), hX, hX]
  split_ifs with h0
  · exact at_eq x b ch (by simp only [half, px_col]) (by simp only [half, beyond, py_col]; show 64 * (1 - py c) + 63 = 64 - py c; omega)
  · exact at_eq x b ch (by simp only [half, px_col]) (by simp only [half, beyond, py_col]; show 64 * (1 - py c) + 0 = 64 - py c; omega)

/-- and the received corner is the place beyond both ways. -/
theorem cor_at : sent X 5 (peer 5 c) (ix2 b ch) = x (ix4 b (beyond (px c)) (beyond (py c)) ch) := by
  have h := px_lt c
  have h' := py_lt c
  have e := pxW_eq (peer 5 c)
  have e' := pyW_eq (peer 5 c)
  rw [px_cor] at e
  rw [py_cor] at e'
  show k0_pay6 (pyW (peer 5 c)) (k0_pay3 (peer 5 c) (X (peer 5 c))) (ix2 b ch) = _
  rw [e']
  pointwise [k0_pay6, k0_pay3, k0_pay2]
  rw [show Scalar.remsi (Scalar.divsi (Dev.word (peer 5 c)) 2#32) 2#32 = BitVec.ofNat 32 (1 - px c) from e, pick_zero _ (by omega),
    pick_zero _ (by omega), pick_zero _ (by omega), hX, hX, hX, hX]
  split_ifs with h0 h1 h1 <;>
  exact at_eq x b ch (by simp only [half, beyond, px_cor, Fin.val_zero]; first | omega | (show _ + 63 = _; omega))
    (by simp only [half, beyond, py_cor, Fin.val_zero]; first | omega | (show _ + 63 = _; omega))

/-- The device's own quarter. -/
theorem own_at (i j : Fin 64) : k0_pay2 (X c) (ix4 b i j ch) = x (ix4 b (half (px c) (px_lt c) i) (half (py c) (py_lt c) j) ch) := by
  pointwise [k0_pay2]
  exact hX c b i j ch

/-! ## The border -/

/-- The row above the quarter, -/
theorem top_at (j : Fin 64) : k0_pay9 (pxW c) (k0_pay2 (X c)) (sent X 3 (peer 3 c)) (ix3 b j ch)
    = x (ix4 b (edge (64 * px c)) (half (py c) (py_lt c) j) ch) := by
  have h := px_lt c
  pointwise [k0_pay9, k0_pay2]
  rw [pick_px, hX, row_at hX]
  split_ifs with h0 <;> exact at_eq x b ch (by simp only [half, beyond, edge, Fin.val_zero]; omega) rfl

/-- the row below it, -/
theorem bottom_at (j : Fin 64) : k0_pay10 (pxW c) (k0_pay2 (X c)) (sent X 3 (peer 3 c)) (ix3 b j ch)
    = x (ix4 b (edge (64 * px c + 65)) (half (py c) (py_lt c) j) ch) := by
  have h := px_lt c
  pointwise [k0_pay10, k0_pay2]
  rw [pick_px, hX, row_at hX]
  split_ifs with h0
  · exact at_eq x b ch (by simp only [half, beyond, edge]; omega) rfl
  · exact at_eq x b ch (by simp only [half, beyond, edge]; show 64 * px c + 63 = _; omega) rfl

/-- the column to its left, -/
theorem left_at (i : Fin 64) : k0_pay11 (pyW c) (k0_pay2 (X c)) (sent X 4 (peer 4 c)) (ix3 b i ch)
    = x (ix4 b (half (px c) (px_lt c) i) (edge (64 * py c)) ch) := by
  have h := py_lt c
  pointwise [k0_pay11, k0_pay2]
  rw [pick_py, hX, col_at hX]
  split_ifs with h0 <;> exact at_eq x b ch rfl (by simp only [half, beyond, edge, Fin.val_zero]; omega)

/-- and the column to its right. -/
theorem right_at (i : Fin 64) : k0_pay12 (pyW c) (k0_pay2 (X c)) (sent X 4 (peer 4 c)) (ix3 b i ch)
    = x (ix4 b (half (px c) (px_lt c) i) (edge (64 * py c + 65)) ch) := by
  have h := py_lt c
  pointwise [k0_pay12, k0_pay2]
  rw [pick_py, hX, col_at hX]
  split_ifs with h0
  · exact at_eq x b ch rfl (by simp only [half, beyond, edge]; omega)
  · exact at_eq x b ch rfl (by simp only [half, beyond, edge]; show 64 * py c + 63 = _; omega)

/-- The corner above and to the left, -/
theorem topLeft_at : k0_pay13 (pxW c) (pyW c) (k0_pay2 (X c)) (sent X 3 (peer 3 c)) (sent X 4 (peer 4 c)) (sent X 5 (peer 5 c)) (ix2 b ch)
    = x (ix4 b (edge (64 * px c)) (edge (64 * py c)) ch) := by
  have h := px_lt c
  have h' := py_lt c
  pointwise [k0_pay13]
  rw [pick_px, pick_py, left_at hX, top_at hX, cor_at hX]
  split_ifs with h0 h1 <;>
  exact at_eq x b ch (by simp only [half, beyond, edge, Fin.val_zero] <;> omega) (by simp only [half, beyond, edge, Fin.val_zero] <;> omega)

/-- above and to the right, -/
theorem topRight_at : k0_pay14 (pxW c) (pyW c) (k0_pay2 (X c)) (sent X 3 (peer 3 c)) (sent X 4 (peer 4 c)) (sent X 5 (peer 5 c)) (ix2 b ch)
    = x (ix4 b (edge (64 * px c)) (edge (64 * py c + 65)) ch) := by
  have h := px_lt c
  have h' := py_lt c
  have e63 : ((63 : Fin 64) : ℕ) = 63 := rfl
  pointwise [k0_pay14]
  rw [pick_px, pick_py, right_at hX, top_at hX, cor_at hX]
  split_ifs with h0 h1 <;>
  exact at_eq x b ch (by simp only [half, beyond, edge, Fin.val_zero, e63] <;> omega) (by simp only [half, beyond, edge, Fin.val_zero, e63] <;> omega)

/-- below and to the left, -/
theorem bottomLeft_at :
    Scalar.select (Scalar.cmpi .eq (pxW c) 1#32) (k0_pay15 (pyW c) (k0_pay2 (X c)) (sent X 4 (peer 4 c)) (ix2 b ch))
        (Scalar.select (Scalar.cmpi .eq (pyW c) 0#32) (k0_pay16 (pxW c) (k0_pay2 (X c)) (sent X 3 (peer 3 c)) (ix3 b 0 ch)) ((sent X 5 (peer 5 c)) (ix2 b ch)))
      = x (ix4 b (edge (64 * px c + 65)) (edge (64 * py c)) ch) := by
  have h := px_lt c
  have h' := py_lt c
  have e63 : ((63 : Fin 64) : ℕ) = 63 := rfl
  pointwise [k0_pay15, k0_pay16]
  rw [pick_px_one, pick_py, left_at hX, bottom_at hX, cor_at hX]
  split_ifs with h0 h1 <;>
  exact at_eq x b ch (by simp only [half, beyond, edge, Fin.val_zero, e63] <;> omega) (by simp only [half, beyond, edge, Fin.val_zero, e63] <;> omega)

/-- and below and to the right. -/
theorem bottomRight_at :
    Scalar.select (Scalar.cmpi .eq (pxW c) 0#32)
        (Scalar.select (Scalar.cmpi .eq (pyW c) 0#32) ((sent X 5 (peer 5 c)) (ix2 b ch)) (k0_pay10 (pxW c) (k0_pay2 (X c)) (sent X 3 (peer 3 c)) (ix3 b 63 ch)))
        (k0_pay12 (pyW c) (k0_pay2 (X c)) (sent X 4 (peer 4 c)) (ix3 b 63 ch))
      = x (ix4 b (edge (64 * px c + 65)) (edge (64 * py c + 65)) ch) := by
  have h := px_lt c
  have h' := py_lt c
  have e63 : ((63 : Fin 64) : ℕ) = 63 := rfl
  rw [pick_px, pick_py, right_at hX, bottom_at hX, cor_at hX]
  split_ifs with h0 h1 <;>
  exact at_eq x b ch (by simp only [half, beyond, edge, e63] <;> omega) (by simp only [half, beyond, edge, e63] <;> omega)

/-- The quarter with its border is the images with their ends repeated, read at the quarter. -/
theorem padOf_at (i j : Fin 66) : padOf c (X c) (sent X 3 (peer 3 c)) (sent X 4 (peer 4 c)) (sent X 5 (peer 5 c)) (ix4 b i j ch)
    = x (ix4 b (edge (64 * px c + i.val)) (edge (64 * py c + j.val)) ch) := by
  have h := px_lt c
  have h' := py_lt c
  have hi := i.isLt
  have hj := j.isLt
  pointwise [padOf, k0_pay17]
  rw [bottomLeft_at hX, bottomRight_at hX, topLeft_at hX, topRight_at hX]
  have last {n : ℕ} (hn : n < 66) (h0 : ¬ n < 1) (h1 : ¬ n - 1 < 64) : n = 65 := by omega
  by_cases i0 : i.val < 1
  · rw [dif_pos i0]
    by_cases j0 : j.val < 1
    · rw [dif_pos j0]; exact at_eq x b ch (by simp only [edge]; omega) (by simp only [edge]; omega)
    · rw [dif_neg j0]
      by_cases j1 : j.val - 1 < 64
      · rw [dif_pos j1, top_at hX]; exact at_eq x b ch (by simp only [edge]; omega) (by simp only [edge, half]; omega)
      · rw [dif_neg j1]; exact at_eq x b ch (by simp only [edge]; omega) (by simp only [edge]; omega)
  · rw [dif_neg i0]
    by_cases i1 : i.val - 1 < 64
    · rw [dif_pos i1]
      by_cases j0 : j.val < 1
      · rw [dif_pos j0, left_at hX]; exact at_eq x b ch (by simp only [edge, half]; omega) (by simp only [edge]; omega)
      · rw [dif_neg j0]
        by_cases j1 : j.val - 1 < 64
        · rw [dif_pos j1, own_at hX]; exact at_eq x b ch (by simp only [edge, half]; omega) (by simp only [edge, half]; omega)
        · rw [dif_neg j1, right_at hX]; exact at_eq x b ch (by simp only [edge, half]; omega) (by simp only [edge]; omega)
    · rw [dif_neg i1]
      by_cases j0 : j.val < 1
      · rw [dif_pos j0]; exact at_eq x b ch (by simp only [edge]; omega) (by simp only [edge]; omega)
      · rw [dif_neg j0]
        by_cases j1 : j.val - 1 < 64
        · rw [dif_pos j1, bottom_at hX]; exact at_eq x b ch (by simp only [edge]; omega) (by simp only [edge, half]; omega)
        · rw [dif_neg j1]; exact at_eq x b ch (by simp only [edge]; omega) (by simp only [edge]; omega)

/-! ## The statistics -/

/-- The sum of a quantity over a device's quarter of one channel. -/
abbrev share (f : Fin 128 × Fin 128 → EReal) (c : Dev nD) : EReal := quarter f (px c) (py c) (px_lt c) (py_lt c)

omit hX in
/-- A device and its three neighbours hold the four quarters. -/
theorem shares_all (f : Fin 128 × Fin 128 → EReal) (c : Dev nD) :
    share f c + share f (nbr 0 c) + share f (nbr 1 c) + share f (nbr 2 c) = ∑ q, f q := by
  have hb : Function.Injective (![c, nbr 0 c, nbr 1 c, nbr 2 c] : Fin 4 → Dev nD) := by
    intro i j; revert c i j; decide
  have hs : ∑ i : Fin 4, share f ((![c, nbr 0 c, nbr 1 c, nbr 2 c] : Fin 4 → Dev nD) i) = ∑ d : Dev nD, share f d :=
    (Finite.injective_iff_bijective.mp hb).sum_comp (share f)
  rw [Fin.sum_univ_four] at hs
  refine hs.trans ?_
  rw [sum_quarters, show (∑ d : Dev nD, share f d) = ∑ d : Fin 4, share f d from rfl, Fin.sum_univ_four, ← add_assoc]
  rfl

omit hX in
/-- Row 0 of the statistics is the first sum, -/
theorem statOf_sum (x : Vec Ideal S2x64x64x64 .f32) (b : Fin 2) (ch : Fin 64) :
    statOf x (ix3 0 b ch) = k0_pay7 (k0_pay2 x) (ix3 0 b ch) := by
  unfold statOf
  exact (if_pos (show ((ix3 (0 : Fin 2) b ch) 0).val = 0 from rfl)).trans
    (congrArg (k0_pay7 (k0_pay2 x)) (by funext a; fin_cases a <;> rfl))

omit hX in
/-- and row 1 the second. -/
theorem statOf_sq (x : Vec Ideal S2x64x64x64 .f32) (b : Fin 2) (ch : Fin 64) :
    statOf x (ix3 1 b ch) = k0_pay8 (k0_pay2 x) (ix3 0 b ch) := by
  unfold statOf
  exact (if_neg (show ¬ ((ix3 (1 : Fin 2) b ch) 0).val = 0 from Nat.one_ne_zero)).trans
    (congrArg (k0_pay8 (k0_pay2 x)) (by funext a; fin_cases a <;> rfl))

/-- A device's statistics are the sums over its quarter, -/
theorem stat_sum : statOf (X c) (ix3 0 b ch) = share (fun q => x (ix4 b q.1 q.2 ch)) c := by
  rw [statOf_sum]
  pointwise [k0_pay7, k0_pay2]
  refine (reduceAdd_middle _ _ b ch).trans (Finset.sum_congr rfl fun q _ => ?_)
  exact hX c b q.1 q.2 ch

/-- and the sums of squares. -/
theorem stat_sq : statOf (X c) (ix3 1 b ch) = share (fun q => x (ix4 b q.1 q.2 ch) * x (ix4 b q.1 q.2 ch)) c := by
  rw [statOf_sq]
  pointwise [k0_pay8, k0_pay2]
  refine (reduceAdd_middle _ _ b ch).trans (Finset.sum_congr rfl fun q _ => ?_)
  pointwise
  rw [hX]

omit hX in
/-- The four devices' statistics added up. -/
theorem total_at (X : Dev nD → Vec Ideal S2x64x64x64 .f32) (c : Dev nD) (r : Fin 2) (b : Fin 2) (ch : Fin 64) :
    k0_pay21 (statOf (X c)) (slotVal X 0 c) (slotVal X 1 c) (slotVal X 2 c) (ix3 r b ch)
      = statOf (X c) (ix3 r b ch) + statOf (X (nbr 0 c)) (ix3 r b ch) + statOf (X (nbr 1 c)) (ix3 r b ch) + statOf (X (nbr 2 c)) (ix3 r b ch) := by
  have hs (j : Fin 3) : slotVal X j c (ix4 (0 : Fin 1) r b ch) = statOf (X (nbr j c)) (ix3 r b ch) :=
    (wide_slot X c j _).trans (congrArg _ (by funext a; fin_cases a <;> rfl))
  pointwise [k0_pay21]
  rw [hs 0, hs 1, hs 2]

/-- The total of the sums is the sum over the whole channel, -/
theorem total_sum : k0_pay21 (statOf (X c)) (slotVal X 0 c) (slotVal X 1 c) (slotVal X 2 c) (ix3 0 b ch)
    = ∑ q : Fin 128 × Fin 128, x (ix4 b q.1 q.2 ch) := by
  rw [total_at]
  simp only [stat_sum hX]
  exact shares_all _ c

/-- and of the sums of squares the sum of squares. -/
theorem total_sq : k0_pay21 (statOf (X c)) (slotVal X 0 c) (slotVal X 1 c) (slotVal X 2 c) (ix3 1 b ch)
    = ∑ q : Fin 128 × Fin 128, x (ix4 b q.1 q.2 ch) * x (ix4 b q.1 q.2 ch) := by
  rw [total_at]
  simp only [stat_sq hX]
  exact shares_all _ c

end

end Cert.Exchange
-- ==== Proof.KernelPoint.lean ====
/-
# The kernel at an index

One number of the kernel's result: the block's own number, and the gated channels by the weights, each
channel the weighted sum of the nine numbers under the window corrected by the statistics.
-/
module

public import proofs.«01_k».proof.Proof.Whole

@[expose] public section

set_option maxRecDepth 100000

namespace Cert.Exchange

noncomputable section

open Cert.KernelIdeal Cert.KernelIdeal.Gen Cert.Numbers
open Idealize.ShloMosaic
open Idealize.ShloMosaic.TcCoe
open scoped BigOperators

section Block

variable (c : Dev nD) (x : Vec Ideal S2x64x64x64 .f32) (row col : Vec Ideal S2x64x64 .f32) (cor : Vec Ideal S2x64 .f32)
  (s : Vec Ideal S2x2x64 .f32) (s0 s1 s2 : Vec Ideal S1x2x2x64 .f32) (kw : Vec Ideal S3x3x64 .f32) (w : Vec Ideal S64x64 .f32)

/-- The nine taps of a block with its border. -/
abbrev tapsOf : Vec Ideal S2x64x64x64 .f32 :=
  k0_pay20 (padOf c x row col cor) (k0_pay18 kw)
    (k0_pay19 (pxW c) (pyW c) (k0_pay2 x) cor (k0_pay9 (pxW c) (k0_pay2 x) row) (k0_pay10 (pxW c) (k0_pay2 x) row)
      (k0_pay11 (pyW c) (k0_pay2 x) col) (k0_pay12 (pyW c) (k0_pay2 x) col)
      (k0_pay13 (pxW c) (pyW c) (k0_pay2 x) row col cor) (k0_pay14 (pxW c) (pyW c) (k0_pay2 x) row col cor)
      (Scalar.cmpi .eq (pxW c) 1#32) (k0_pay15 (pyW c) (k0_pay2 x) col) (Scalar.cmpi .eq (pyW c) 0#32) (k0_pay16 (pxW c) (k0_pay2 x) row) kw)

theorem tapsOf_at (b : Fin 2) (i j ch : Fin 64) : tapsOf c x row col cor kw (ix4 b i j ch)
    = tapSum (fun a d => padOf c x row col cor (ix4 b ⟨a.val + i.val, by omega⟩ ⟨d.val + j.val, by omega⟩ ch)) fun a d => kw (ix3 a d ch) := by
  have hk (a d : Fin 3) : k0_pay18 kw (ix3 a d ch) = kw (ix3 a d ch) := by pointwise [k0_pay18]
  pointwise [tapsOf, k0_pay20, k0_pay19]
  simp only [hk, tapSum, Fin.val_zero, Fin.val_one, Fin.val_two, zero_add]
  rfl

theorem resultOf_at (b : Fin 2) (i j ch : Fin 64) : resultOf c x row col cor s s0 s1 s2 kw w (ix4 b i j ch)
    = k0_pay2 x (ix4 b i j ch) + ∑ d : Fin 64,
        corrected (tapsOf c x row col cor kw (ix4 b i j d)) (k0_pay21 s s0 s1 s2 (ix3 0 b d)) (k0_pay21 s s0 s1 s2 (ix3 1 b d))
            (∑ q : Fin 3 × Fin 3, kw (ix3 q.1 q.2 d))
          * Ideal.logistic (corrected (tapsOf c x row col cor kw (ix4 b i j d)) (k0_pay21 s s0 s1 s2 (ix3 0 b d))
              (k0_pay21 s s0 s1 s2 (ix3 1 b d)) (∑ q : Fin 3 × Fin 3, kw (ix3 q.1 q.2 d)))
          * w (ix2 d ch) := by
  have hk (d : Fin 64) : Ideal.reduceAdd reduces_S3x3x64_S64 (k0_pay18 kw) (ix1 d) = ∑ q : Fin 3 × Fin 3, kw (ix3 q.1 q.2 d) := by
    refine (reduceAdd_front _ _ d).trans (Finset.sum_congr rfl fun q _ => ?_)
    pointwise [k0_pay18]
  show k0_pay1 (k0_pay2 x) (k0_pay18 kw) (tapsOf c x row col cor kw) (k0_pay21 s s0 s1 s2) w (ix4 b i j ch) = _
  generalize tapsOf c x row col cor kw = t
  generalize k0_pay21 s s0 s1 s2 = tot
  pointwise [k0_pay1]
  simp only [hk]
  rfl

end Block

/-- A channel before the gate, as the kernel computes it. -/
def channel (x : Whole) (kw : Vec Ideal S3x3x64 .f32) (b : Fin 2) (ch : Fin 64) (i j : ℕ) : EReal :=
  corrected (tapSum (fun a d => x (ix4 b (around i j a d).1 (around i j a d).2 ch)) fun a d => kw (ix3 a d ch))
    (∑ q : Fin 128 × Fin 128, x (ix4 b q.1 q.2 ch)) (∑ q : Fin 128 × Fin 128, x (ix4 b q.1 q.2 ch) * x (ix4 b q.1 q.2 ch))
    (∑ q : Fin 3 × Fin 3, kw (ix3 q.1 q.2 ch))

/-- A device's result at an index, in terms of the whole images. -/
theorem outOf_at {X : Dev nD → Vec Ideal S2x64x64x64 .f32} {x : Whole} (hX : Quarters X x) (c : Dev nD)
    (kw : Vec Ideal S3x3x64 .f32) (w : Vec Ideal S64x64 .f32) (b : Fin 2) (i j ch : Fin 64) :
    outOf X c kw w (ix4 b i j ch)
      = x (ix4 b (half (px c) (px_lt c) i) (half (py c) (py_lt c) j) ch) + ∑ d : Fin 64,
        channel x kw b d (64 * px c + i.val) (64 * py c + j.val) * Ideal.logistic (channel x kw b d (64 * px c + i.val) (64 * py c + j.val))
          * w (ix2 d ch) := by
  have ht (d : Fin 64) : tapsOf c (X c) (sent X 3 (peer 3 c)) (sent X 4 (peer 4 c)) (sent X 5 (peer 5 c)) kw (ix4 b i j d)
      = tapSum (fun a e => x (ix4 b (around (64 * px c + i.val) (64 * py c + j.val) a e).1 (around (64 * px c + i.val) (64 * py c + j.val) a e).2 d))
          fun a e => kw (ix3 a e d) := by
    rw [tapsOf_at]
    congr 1
    funext a e
    rw [padOf_at hX]
    exact at_eq x b d (by simp only [edge]; omega) (by simp only [edge]; omega)
  unfold outOf
  rw [resultOf_at]
  simp only [ht, own_at hX, total_sum hX, total_sq hX]
  rfl

end

end Cert.Exchange
-- ==== Proof.RefPoint.lean ====
/-
# The reference at an index

Each stage of the reference's mathematics read at one index, and the whole at one index of the result.
-/
module

public import proofs.«01_k».proof.Proof.RefValue
public import proofs.«01_k».proof.Proof.Numbers
public import proofs.«01_k».proof.Proof.Sums

@[expose] public section

set_option maxRecDepth 100000

namespace Cert.Plain

noncomputable section

open Cert.ReferenceIdeal Cert.ReferenceIdeal.Gen Cert.Numbers
open Idealize.ShloMosaic
open scoped BigOperators

variable (x : Arr Ideal S2x128x128x64) (k : Arr Ideal S3x3x64) (w : Arr Ideal S64x64) (b : Fin 2) (c : Fin 64)

/-- The numbers of image `b`'s channel `c`. -/
abbrev plane (q : Fin 128 × Fin 128) : EReal := x (ix4 b q.1 q.2 c)

theorem sumOf_at : sumOf x (ix4 b 0 0 c) = ∑ q, plane x b c q := by
  pointwise [sumOf]
  exact (hostReduceAdd_middle _ x 0 b c).trans (zero_add _)

/-- The mean of a channel. -/
abbrev planeMean : EReal := Ideal.div (∑ q, plane x b c q) count

theorem meanOf_at : meanOf x (ix4 b 0 0 c) = planeMean x b c := by
  pointwise [meanOf]
  rw [sumOf_at]

/-- The variance of a channel. -/
abbrev planeVar : EReal :=
  Ideal.div (∑ q, (plane x b c q - planeMean x b c) * (plane x b c q - planeMean x b c)) count

theorem varOf_at : varOf x (ix4 b 0 0 c) = planeVar x b c := by
  pointwise [varOf, countOf]
  rw [count_less, if_pos count_pos, sumOf_at]
  refine congrArg (Ideal.div · count) (Finset.sum_congr rfl fun q _ => ?_)
  pointwise [plane, spread]
  rw [meanOf_at]

theorem normOf_at (i j : Fin 128) :
    normOf x (meanOf x) (varOf x) (ix4 b i j c) = normal (plane x b c (i, j)) (planeMean x b c) (planeVar x b c) := by
  pointwise [normOf, spread]
  rw [meanOf_at, varOf_at]
  rfl

/-- The padded array repeats its border. -/
theorem pad_at (h : Arr Ideal S2x128x128x64) (i j : Fin 130) :
    padChans (padCols (padRows (padImages h))) (ix4 b i j c) = h (ix4 b (edge i.val) (edge j.val) c) := by
  have himg (r s : Fin 128) : padImages h (ix4 b r s c) = h (ix4 b r s c) := by
    pointwise [padImages]
    by_cases h0 : b.val < 0
    · exact absurd h0 (Nat.not_lt_zero _)
    · rw [dif_neg h0]
  have hrow (s : Fin 128) : padRows (padImages h) (ix4 b i s c) = h (ix4 b (edge i.val) s c) := by
    pointwise [padRows]
    exact (edge_pick (fun r => padImages h (ix4 b r s c)) i.val).trans (himg _ _)
  have hcol : padCols (padRows (padImages h)) (ix4 b i j c) = h (ix4 b (edge i.val) (edge j.val) c) := by
    pointwise [padCols]
    exact (edge_pick (fun s => padRows (padImages h) (ix4 b i s c)) j.val).trans (hrow _)
  pointwise [padChans]
  by_cases h0 : c.val < 0
  · exact absurd h0 (Nat.not_lt_zero _)
  · rw [dif_neg h0]; exact hcol

theorem convOf_at (p : Arr Ideal S2x130x130x64) (i j : Fin 128) :
    convOf p k (ix4 b i j c)
      = tapSum (fun a d => p (ix4 b ⟨a.val + i.val, by omega⟩ ⟨d.val + j.val, by omega⟩ c)) fun a d => k (ix3 a d c) := by
  pointwise [convOf, tapped, scaleOf]
  simp only [tapSum, Fin.val_zero, Fin.val_one, Fin.val_two, zero_add]

/-- A channel before the gate, as the reference computes it. -/
def channel (i j : ℕ) : EReal :=
  tapSum (fun a d => normal (plane x b c (around i j a d)) (planeMean x b c) (planeVar x b c)) fun a d => k (ix3 a d c)

/-- The reference at an index: the number itself, and the gated channels by the weights. -/
theorem refOf_at (i j : Fin 128) :
    refOf x k w (ix4 b i j c)
      = x (ix4 b i j c) + ∑ d, Ideal.div (channel x k b d i.val j.val) (1 + Ideal.exp (-channel x k b d i.val j.val)) * w (ix2 d c) := by
  have hc (d : Fin 64) : convOf (padChans (padCols (padRows (padImages (normOf x (meanOf x) (varOf x)))))) k (ix4 b i j d)
      = channel x k b d i.val j.val := by
    rw [convOf_at]
    unfold channel
    congr 1
    funext a e
    rw [pad_at, normOf_at]
  pointwise [refOf, mixOf, gateOf]
  simp only [hc]

end

end Cert.Plain
-- ==== Proof.Equation.lean ====
/-
# The kernel's blocks are the reference's result

For finite images and a finite kernel, each device's result is its quarter of the reference's.
-/
module

public import proofs.«01_k».proof.Proof.KernelPoint
public import proofs.«01_k».proof.Proof.RefPoint

@[expose] public section

set_option maxRecDepth 100000

namespace Cert.Exchange

noncomputable section

open Cert.KernelIdeal Cert.KernelIdeal.Gen Cert.Numbers
open Idealize.ShloMosaic
open Idealize.ShloMosaic.TcCoe
open scoped BigOperators

/-- Before the gate the two compute the same channel. -/
theorem channel_eq (x : Whole) (kw : Vec Ideal S3x3x64 .f32) (hx : ∀ i, ∃ r : ℝ, x i = r) (hk : ∀ i, ∃ r : ℝ, kw i = (r : EReal))
    (b : Fin 2) (ch : Fin 64) (i j : ℕ) : channel x kw b ch i j = Plain.channel x kw b ch i j := by
  choose xr hxr using hx
  choose kr hkr using hk
  unfold channel Plain.channel Plain.planeVar Plain.planeMean Plain.plane
  simp only [hxr, hkr]
  exact corrected_eq (fun q => xr (ix4 b q.1 q.2 ch)) (fun a d => kr (ix3 a d ch)) (around i j)

/-- Each device's result is its quarter of the reference's. -/
theorem out_quarter {X : Dev nD → Vec Ideal S2x64x64x64 .f32} {x : Whole} (hX : Quarters X x)
    (kw : Vec Ideal S3x3x64 .f32) (w : Vec Ideal S64x64 .f32) (hx : ∀ i, ∃ r : ℝ, x i = r) (hk : ∀ i, ∃ r : ℝ, kw i = (r : EReal)) :
    Quarters (fun c => outOf X c kw w) (Plain.refOf x kw w) := by
  intro c b i j ch
  show outOf X c kw w (ix4 b i j ch) = _
  rw [outOf_at hX, Plain.refOf_at]
  refine congrArg (_ + ·) (Finset.sum_congr rfl fun d _ => ?_)
  rw [channel_eq x kw hx hk, gate_eq]

end

end Cert.Exchange
-- ==== Proof.Finite.lean ====
/-
# Finite arguments

What the precondition says of a device's arguments: every number of its images and of its kernel is real.
-/
module

public import proofs.«01_k».proof.Pre_finite_KernelIdeal
public import proofs.«01_k».proof.Proof.Gen.Pre_finite_KernelIdeal
public import Idealize.ShloMosaic.Lib.Pointwise
public import Idealize.ShloMosaic.Lib.ReduceAll

@[expose] public section

namespace Cert.Exchange

noncomputable section

open Idealize.ShloMosaic
open Cert.Pre_finite_KernelIdeal Cert.Pre_finite_KernelIdeal.Facts

/-- The pattern of positive infinity is the greatest extended real. -/
theorem infinity_eq : Ideal.ofBits .f32 0x7F800000#32 = ⊤ := by simp [Ideal.ofBits, Ideal.ieee]

/-- A number whose magnitude is below infinity is a real. -/
theorem real_of_magnitude (v : EReal) (h : Ideal.cmp .olt (max v (-v)) (Ideal.ofBits .f32 0x7F800000#32) = 1#1) : ∃ r : ℝ, v = r := by
  rw [infinity_eq] at h
  have hv : max v (-v) < ⊤ := by
    by_contra hn
    simp only [Ideal.cmp, decide_eq_false hn] at h
    exact absurd h (by decide)
  rw [max_lt_iff] at hv
  induction v using EReal.rec with
  | bot => exact absurd hv.2 (by simp)
  | top => exact absurd hv.1 (by simp)
  | coe r => exact ⟨r, rfl⟩

instance scalar_one : Subsingleton S_.Idx := ⟨fun i j => funext fun a => a.elim0⟩

/-- An array all of whose magnitudes the precondition finds below infinity holds reals. -/
theorem reals_of_all {s : Shape} {axes : List (Fin s.rank)} (x : FVec Ideal s .f32) (hb : S_.BroadcastsInDim s (![] : Fin 0 → Fin s.rank))
    (hr : s.ReducesTo axes S_) (hu : 0 < S_.numel) (j : S_.Idx)
    (h : Host.reduce IntOp.andi (cmpf .olt (Host.absf x) (broadcastInDim s ![] hb (constant S_ .f32 0x7F800000#32)))
      (constantI S_ 1 1#1) hr hu j = 1#1) (i : s.Idx) : ∃ r : ℝ, x i = (r : EReal) :=
  real_of_magnitude (x i) (Host.reduce_andi_all _ _ hr hu j h i)

/-- The precondition of one device: its images and its kernel hold reals. -/
theorem finite_reals (x : FVec Ideal S2x64x64x64 .f32) (k : FVec Ideal S3x3x64 .f32) (w : FVec Ideal S64x64 .f32)
    (h : fn (F := Ideal) x k w = fun _ => 1#1) : (∀ i, ∃ r : ℝ, x i = (r : EReal)) ∧ ∀ i, ∃ r : ℝ, k i = (r : EReal) := by
  obtain ⟨h1, h2⟩ := IntOp.andi_eq_one.mp (congrFun h ix0)
  exact ⟨reals_of_all x _ _ _ ix0 h1, reals_of_all k _ _ _ ix0 h2⟩

end

end Cert.Exchange
-- ==== Proof.Algebraic.lean ====
/-
# The equation of the two programs

From memories that hold the images cut in quarters, the kernel ends with the quarters of what the reference
ends with.
-/
module

public import proofs.«01_k».proof.Defs
public import proofs.«01_k».proof.Proof.Frames
public import proofs.«01_k».proof.Proof.Equation
public import proofs.«01_k».proof.Proof.Finite

@[expose] public section

namespace Cert.Exchange

noncomputable section

open Idealize.ShloMosaic
open Idealize.ShloMosaic.TcCoe
open Idealize.SL.Sem
open Cert.Numbers

/-- A device's part of the images, as the sharding names it, -/
abbrev partOf (x : Whole) (c : Dev KernelIdeal.nD) : (⟨4, ![2, 64, 64, 64]⟩ : Shape).Idx → EReal :=
  Layout.blockN ⟨4, ![2, 64, 64, 64]⟩ ⟨4, ![2, 128, 128, 64]⟩ (Layout.meshBlock [2, 2] ![[], [0], [1], []] c) x

/-- is its quarter. -/
theorem block_at (x : Whole) (c : Dev KernelIdeal.nD) (b : Fin 2) (i j ch : Fin 64) :
    partOf x c (ix4 b i j ch) = x (ix4 b (half (px c) (px_lt c) i) (half (py c) (py_lt c) j) ch) := by
  have h1 : ∀ c : Dev KernelIdeal.nD, Layout.meshLin [2, 2] c.val [0] = px c := by decide
  have h2 : ∀ c : Dev KernelIdeal.nD, Layout.meshLin [2, 2] c.val [1] = py c := by decide
  unfold partOf
  rw [Layout.blockN_apply]
  refine congrArg x (funext fun a => Fin.ext ?_)
  rw [Layout.TilesN.idx_val]
  fin_cases a
  · show 0 * 2 + b.val = b.val; omega
  · show Layout.meshLin [2, 2] c.val [0] * 64 + i.val = 64 * px c + i.val; rw [h1]; omega
  · show Layout.meshLin [2, 2] c.val [1] * 64 + j.val = 64 * py c + j.val; rw [h2]; omega
  · show 0 * 64 + ch.val = ch.val; omega

/-- Every place of the images lies in some device's quarter. -/
theorem quarter_of (b : Fin 2) (r s : Fin 128) (ch : Fin 64) :
    ∃ (c : Dev KernelIdeal.nD) (i j : Fin 64),
      (ix4 b r s ch : (⟨4, ![2, 128, 128, 64]⟩ : Shape).Idx) = ix4 b (half (px c) (px_lt c) i) (half (py c) (py_lt c) j) ch := by
  have hc : 2 * (r.val / 64) + s.val / 64 < 4 := by omega
  refine ⟨⟨2 * (r.val / 64) + s.val / 64, hc⟩, ⟨r.val % 64, by omega⟩, ⟨s.val % 64, by omega⟩, ?_⟩
  have er : r = half (px ⟨2 * (r.val / 64) + s.val / 64, hc⟩) (px_lt _) ⟨r.val % 64, by omega⟩ :=
    Fin.ext (by simp only [px]; omega)
  have es : s = half (py ⟨2 * (r.val / 64) + s.val / 64, hc⟩) (py_lt _) ⟨s.val % 64, by omega⟩ :=
    Fin.ext (by simp only [py]; omega)
  rw [← er, ← es]

/-- The kernel ends under the precondition too, -/
theorem frame_ideal_pre : Cert.quiescent_KernelIdeal_pre_finite_KernelIdeal := fun m ρ _ => run_frame (F := Ideal) m ρ

/-- For finite images and a finite kernel the two programs end with the same result. -/
theorem same_result : Cert.algebraic_KernelIdeal_ReferenceIdeal_pre_finite_KernelIdeal := by
  intro m ρ m' ρ' hpre hargs
  let x : Whole := m' (((0 : Dev ReferenceIdeal.nD).tc : Thread ReferenceIdeal.nD ReferenceIdeal.τ).loc ReferenceIdeal.main_arg0)
  let kw : Vec Ideal KernelIdeal.S3x3x64 .f32 := m' (((0 : Dev ReferenceIdeal.nD).tc : Thread ReferenceIdeal.nD ReferenceIdeal.τ).loc ReferenceIdeal.main_arg1)
  let w : Vec Ideal KernelIdeal.S64x64 .f32 := m' (((0 : Dev ReferenceIdeal.nD).tc : Thread ReferenceIdeal.nD ReferenceIdeal.τ).loc ReferenceIdeal.main_arg2)
  have hX : Quarters (xin m) x := fun c b i j ch => by
    refine Eq.trans ?_ (block_at x c b i j ch)
    exact congrFun (hargs c).1 _
  have hk (c) : kin m c = kw := (hargs c).2.1
  have hw (c) : win m c = w := (hargs c).2.2
  have hfin (c) := finite_reals _ _ _ (hpre c)
  have hx (i) : ∃ r : ℝ, x i = (r : EReal) := by
    obtain ⟨c, p, q, e⟩ := quarter_of (i 0) (i 1) (i 2) (i 3)
    have ei : i = ix4 (i 0) (half (px c) (px_lt c) p) (half (py c) (py_lt c) q) (i 3) := (eq_ix4 i).trans e
    obtain ⟨r, hr⟩ := (hfin c).1 (ix4 (i 0) p q (i 3))
    exact ⟨r, by rw [ei]; exact (hX c (i 0) p q (i 3)).symm.trans hr⟩
  have hkr (i) : ∃ r : ℝ, kw i = (r : EReal) := by
    obtain ⟨r, hr⟩ := (hfin 0).2 i
    exact ⟨r, (congrFun (hk 0) i).symm.trans hr⟩
  have hq := out_quarter hX kw w hx hkr
  refine ⟨Plain.refOf (F := Ideal) x kw w, ?_, ?_⟩
  · refine (θ_run KernelIdeal.defs _ _).mono (fun r h c => ⟨?_, (h.1 c).2⟩) (run_main m ρ)
    rw [(h.1 c).1, hk, hw]
    funext i
    rw [eq_ix4 i]
    exact (hq c _ _ _ _).trans (block_at _ c _ _ _ _).symm
  · exact θ_run_mono (Plain.run_plain (F := Ideal) m' ρ') fun r h => ⟨(h.1 0).1, (h.1 0).2⟩

end

end Cert.Exchange
-- ==== Proof.lean ====
/-
# The claim

The kernel's frames, over machine floats and over the extended reals, the reference's, and the equation of the
two programs.
-/
module

public import proofs.«01_k».proof.Defs
public import proofs.«01_k».proof.Proof.Frames
public import proofs.«01_k».proof.Proof.Algebraic
public import proofs.«01_k».proof.Proof.Gen.Kernel
public import proofs.«01_k».proof.Proof.Gen.KernelIdeal
public import proofs.«01_k».proof.Proof.Gen.ReferenceIdeal
public import proofs.«01_k».proof.Proof.Gen.Pre_finite_KernelIdeal
public import proofs.«01_k».proof.Proof.Gen.Pre_finite_ReferenceIdeal

@[expose] public section

noncomputable section

namespace Cert.Proof

theorem claim : Cert.Claim :=
  ⟨Cert.Kernel.Gen.facts, Cert.KernelIdeal.Gen.facts, Cert.ReferenceIdeal.Gen.facts,
    Cert.Pre_finite_KernelIdeal.Gen.facts, Cert.Pre_finite_ReferenceIdeal.Gen.facts,
    Cert.Exchange.frame_kernel, Cert.Exchange.frame_ideal, Cert.Exchange.frame_ideal_pre, Cert.Exchange.frame_plain,
    fun m ρ _ => Cert.Exchange.frame_plain m ρ trivial, trivial, Cert.Exchange.same_result⟩

end Cert.Proof

end
